-- ==== Defs.lean ====
def Pre_XPrep (m : (ℓ : Loc Cert.XPrep.nD Cert.XPrep.τ Cert.XPrep.sig) → Buf (Elt Bits) ℓ) : Prop :=
  True

def Pre_XPrepIdeal (m : (ℓ : Loc Cert.XPrepIdeal.nD Cert.XPrepIdeal.τ Cert.XPrepIdeal.sig) → Buf (Elt Ideal) ℓ) : Prop :=
  True

def Pre_XPrepRefIdeal (m : (ℓ : Loc Cert.XPrepRefIdeal.nD Cert.XPrepRefIdeal.τ Cert.XPrepRefIdeal.sig) → Buf (Elt Ideal) ℓ) : Prop :=
  True

def Pre_DyPrep (m : (ℓ : Loc Cert.DyPrep.nD Cert.DyPrep.τ Cert.DyPrep.sig) → Buf (Elt Bits) ℓ) : Prop :=
  True

def Pre_DyPrepIdeal (m : (ℓ : Loc Cert.DyPrepIdeal.nD Cert.DyPrepIdeal.τ Cert.DyPrepIdeal.sig) → Buf (Elt Ideal) ℓ) : Prop :=
  True

def Pre_DyPrepRefIdeal (m : (ℓ : Loc Cert.DyPrepRefIdeal.nD Cert.DyPrepRefIdeal.τ Cert.DyPrepRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_Y (m : (ℓ : Loc Cert.Y.nD Cert.Y.τ Cert.Y.sig) → Buf (Elt Bits) ℓ) : Prop :=
  True

def Pre_YIdeal (m : (ℓ : Loc Cert.YIdeal.nD Cert.YIdeal.τ Cert.YIdeal.sig) → Buf (Elt Ideal) ℓ) : Prop :=
  True

def Pre_YRefIdeal (m : (ℓ : Loc Cert.YRefIdeal.nD Cert.YRefIdeal.τ Cert.YRefIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownRefIdeal (m : (ℓ : Loc Cert.DwDownRefIdeal.nD Cert.DwDownRefIdeal.τ Cert.DwDownRefIdeal.sig) → Buf (Elt Ideal) ℓ) : Prop :=
  True

def Pre_DwGateUp (m : (ℓ : Loc Cert.DwGateUp.nD Cert.DwGateUp.τ Cert.DwGateUp.sig) → Buf (Elt Bits) ℓ) : Prop :=
  True

def Pre_DwGateUpIdeal (m : (ℓ : Loc Cert.DwGateUpIdeal.nD Cert.DwGateUpIdeal.τ Cert.DwGateUpIdeal.sig) → Buf (Elt Ideal) ℓ) : Prop :=
  True

def Pre_DwGateUpRefIdeal (m : (ℓ : Loc Cert.DwGateUpRefIdeal.nD Cert.DwGateUpRefIdeal.τ Cert.DwGateUpRefIdeal.sig) → Buf (Elt Ideal) ℓ) : Prop :=
  True

def quiescent_XPrep [hXPrep : Cert.XPrep.Facts] : Prop :=
  ∀ (m : (ℓ : Loc Cert.XPrep.nD Cert.XPrep.τ Cert.XPrep.sig) → Buf (Elt Bits) ℓ) (g : Dev Cert.XPrep.nD → PrngReg), Pre_XPrep m →
    θ_run (Cert.XPrep.defs (F := Bits)) (onTc (τ := Cert.XPrep.τ) (Cert.XPrep.main (F := Bits))) ⟨m, fun _ => 0, g⟩ (fun r => (∀ c : Dev Cert.XPrep.nD,
      r.2.mem ((c.tc : Thread Cert.XPrep.nD Cert.XPrep.τ).loc Cert.XPrep.main_arg0) = m ((c.tc : Thread Cert.XPrep.nD Cert.XPrep.τ).loc Cert.XPrep.main_arg0)
      ∧ r.2.mem ((c.tc : Thread Cert.XPrep.nD Cert.XPrep.τ).loc Cert.XPrep.main_arg1) = m ((c.tc : Thread Cert.XPrep.nD Cert.XPrep.τ).loc Cert.XPrep.main_arg1)
      ∧ r.2.mem ((c.tc : Thread Cert.XPrep.nD Cert.XPrep.τ).loc Cert.XPrep.main_arg2) = m ((c.tc : Thread Cert.XPrep.nD Cert.XPrep.τ).loc Cert.XPrep.main_arg2))
      ∧ r.2.sem = fun _ => 0)

def quiescent_XPrepIdeal [hXPrepIdeal : Cert.XPrepIdeal.Facts] : Prop :=
  ∀ (m : (ℓ : Loc Cert.XPrepIdeal.nD Cert.XPrepIdeal.τ Cert.XPrepIdeal.sig) → Buf (Elt Ideal) ℓ) (g : Dev Cert.XPrepIdeal.nD → PrngReg), Pre_XPrepIdeal m →
    θ_run (Cert.XPrepIdeal.defs (F := Ideal)) (onTc (τ := Cert.XPrepIdeal.τ) (Cert.XPrepIdeal.main (F := Ideal))) ⟨m, fun _ => 0, g⟩ (fun r => (∀ c : Dev Cert.XPrepIdeal.nD,
      r.2.mem ((c.tc : Thread Cert.XPrepIdeal.nD Cert.XPrepIdeal.τ).loc Cert.XPrepIdeal.main_arg0) = m ((c.tc : Thread Cert.XPrepIdeal.nD Cert.XPrepIdeal.τ).loc Cert.XPrepIdeal.main_arg0)
      ∧ r.2.mem ((c.tc : Thread Cert.XPrepIdeal.nD Cert.XPrepIdeal.τ).loc Cert.XPrepIdeal.main_arg1) = m ((c.tc : Thread Cert.XPrepIdeal.nD Cert.XPrepIdeal.τ).loc Cert.XPrepIdeal.main_arg1)
      ∧ r.2.mem ((c.tc : Thread Cert.XPrepIdeal.nD Cert.XPrepIdeal.τ).loc Cert.XPrepIdeal.main_arg2) = m ((c.tc : Thread Cert.XPrepIdeal.nD Cert.XPrepIdeal.τ).loc Cert.XPrepIdeal.main_arg2))
      ∧ r.2.sem = fun _ => 0)

def quiescent_XPrepRefIdeal [hXPrepRefIdeal : Cert.XPrepRefIdeal.Facts] : Prop :=
  ∀ (m : (ℓ : Loc Cert.XPrepRefIdeal.nD Cert.XPrepRefIdeal.τ Cert.XPrepRefIdeal.sig) → Buf (Elt Ideal) ℓ) (g : Dev Cert.XPrepRefIdeal.nD → PrngReg), Pre_XPrepRefIdeal m →
    θ_run (Cert.XPrepRefIdeal.defs (F := Ideal)) (onTc (τ := Cert.XPrepRefIdeal.τ) (Cert.XPrepRefIdeal.main (F := Ideal))) ⟨m, fun _ => 0, g⟩ (fun r => (∀ c : Dev Cert.XPrepRefIdeal.nD,
      r.2.mem ((c.tc : Thread Cert.XPrepRefIdeal.nD Cert.XPrepRefIdeal.τ).loc Cert.XPrepRefIdeal.main_arg0) = m ((c.tc : Thread Cert.XPrepRefIdeal.nD Cert.XPrepRefIdeal.τ).loc Cert.XPrepRefIdeal.main_arg0)
      ∧ r.2.mem ((c.tc : Thread Cert.XPrepRefIdeal.nD Cert.XPrepRefIdeal.τ).loc Cert.XPrepRefIdeal.main_arg1) = m ((c.tc : Thread Cert.XPrepRefIdeal.nD Cert.XPrepRefIdeal.τ).loc Cert.XPrepRefIdeal.main_arg1)
      ∧ r.2.mem ((c.tc : Thread Cert.XPrepRefIdeal.nD Cert.XPrepRefIdeal.τ).loc Cert.XPrepRefIdeal.main_arg2) = m ((c.tc : Thread Cert.XPrepRefIdeal.nD Cert.XPrepRefIdeal.τ).loc Cert.XPrepRefIdeal.main_arg2))
      ∧ r.2.sem = fun _ => 0)

def quiescent_DyPrep [hDyPrep : Cert.DyPrep.Facts] : Prop :=
  ∀ (m : (ℓ : Loc Cert.DyPrep.nD Cert.DyPrep.τ Cert.DyPrep.sig) → Buf (Elt Bits) ℓ) (g : Dev Cert.DyPrep.nD → PrngReg), Pre_DyPrep m →
    θ_run (Cert.DyPrep.defs (F := Bits)) (onTc (τ := Cert.DyPrep.τ) (Cert.DyPrep.main (F := Bits))) ⟨m, fun _ => 0, g⟩ (fun r => (∀ c : Dev Cert.DyPrep.nD,
      r.2.mem ((c.tc : Thread Cert.DyPrep.nD Cert.DyPrep.τ).loc Cert.DyPrep.main_arg0) = m ((c.tc : Thread Cert.DyPrep.nD Cert.DyPrep.τ).loc Cert.DyPrep.main_arg0)
      ∧ r.2.mem ((c.tc : Thread Cert.DyPrep.nD Cert.DyPrep.τ).loc Cert.DyPrep.main_arg1) = m ((c.tc : Thread Cert.DyPrep.nD Cert.DyPrep.τ).loc Cert.DyPrep.main_arg1))
      ∧ r.2.sem = fun _ => 0)

def quiescent_DyPrepIdeal [hDyPrepIdeal : Cert.DyPrepIdeal.Facts] : Prop :=
  ∀ (m : (ℓ : Loc Cert.DyPrepIdeal.nD Cert.DyPrepIdeal.τ Cert.DyPrepIdeal.sig) → Buf (Elt Ideal) ℓ) (g : Dev Cert.DyPrepIdeal.nD → PrngReg), Pre_DyPrepIdeal m →
    θ_run (Cert.DyPrepIdeal.defs (F := Ideal)) (onTc (τ := Cert.DyPrepIdeal.τ) (Cert.DyPrepIdeal.main (F := Ideal))) ⟨m, fun _ => 0, g⟩ (fun r => (∀ c : Dev Cert.DyPrepIdeal.nD,
      r.2.mem ((c.tc : Thread Cert.DyPrepIdeal.nD Cert.DyPrepIdeal.τ).loc Cert.DyPrepIdeal.main_arg0) = m ((c.tc : Thread Cert.DyPrepIdeal.nD Cert.DyPrepIdeal.τ).loc Cert.DyPrepIdeal.main_arg0)
      ∧ r.2.mem ((c.tc : Thread Cert.DyPrepIdeal.nD Cert.DyPrepIdeal.τ).loc Cert.DyPrepIdeal.main_arg1) = m ((c.tc : Thread Cert.DyPrepIdeal.nD Cert.DyPrepIdeal.τ).loc Cert.DyPrepIdeal.main_arg1))
      ∧ r.2.sem = fun _ => 0)

def quiescent_DyPrepRefIdeal [hDyPrepRefIdeal : Cert.DyPrepRefIdeal.Facts] : Prop :=
  ∀ (m : (ℓ : Loc Cert.DyPrepRefIdeal.nD Cert.DyPrepRefIdeal.τ Cert.DyPrepRefIdeal.sig) → Buf (Elt Ideal) ℓ) (g : Dev Cert.DyPrepRefIdeal.nD → PrngReg), Pre_DyPrepRefIdeal m →
    θ_run (Cert.DyPrepRefIdeal.defs (F := Ideal)) (onTc (τ := Cert.DyPrepRefIdeal.τ) (Cert.DyPrepRefIdeal.main (F := Ideal))) ⟨m, fun _ => 0, g⟩ (fun r => (∀ c : Dev Cert.DyPrepRefIdeal.nD,
      r.2.mem ((c.tc : Thread Cert.DyPrepRefIdeal.nD Cert.DyPrepRefIdeal.τ).loc Cert.DyPrepRefIdeal.main_arg0) = m ((c.tc : Thread Cert.DyPrepRefIdeal.nD Cert.DyPrepRefIdeal.τ).loc Cert.DyPrepRefIdeal.main_arg0)
      ∧ r.2.mem ((c.tc : Thread Cert.DyPrepRefIdeal.nD Cert.DyPrepRefIdeal.τ).loc Cert.DyPrepRefIdeal.main_arg1) = m ((c.tc : Thread Cert.DyPrepRefIdeal.nD Cert.DyPrepRefIdeal.τ).loc Cert.DyPrepRefIdeal.main_arg1))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3)
      ∧ r.2.mem ((c.tc : Thread Cert.Mid.nD Cert.Mid.τ).loc Cert.Mid.main_arg4) = m ((c.tc : Thread Cert.Mid.nD Cert.Mid.τ).loc Cert.Mid.main_arg4)
      ∧ r.2.mem ((c.tc : Thread Cert.Mid.nD Cert.Mid.τ).loc Cert.Mid.main_arg5) = m ((c.tc : Thread Cert.Mid.nD Cert.Mid.τ).loc Cert.Mid.main_arg5)
      ∧ r.2.mem ((c.tc : Thread Cert.Mid.nD Cert.Mid.τ).loc Cert.Mid.main_arg6) = m ((c.tc : Thread Cert.Mid.nD Cert.Mid.τ).loc Cert.Mid.main_arg6)
      ∧ r.2.mem ((c.tc : Thread Cert.Mid.nD Cert.Mid.τ).loc Cert.Mid.main_arg7) = m ((c.tc : Thread Cert.Mid.nD Cert.Mid.τ).loc Cert.Mid.main_arg7)
      ∧ r.2.mem ((c.tc : Thread Cert.Mid.nD Cert.Mid.τ).loc Cert.Mid.main_arg8) = m ((c.tc : Thread Cert.Mid.nD Cert.Mid.τ).loc Cert.Mid.main_arg8)
      ∧ r.2.mem ((c.tc : Thread Cert.Mid.nD Cert.Mid.τ).loc Cert.Mid.main_arg9) = m ((c.tc : Thread Cert.Mid.nD Cert.Mid.τ).loc Cert.Mid.main_arg9)
      ∧ r.2.mem ((c.tc : Thread Cert.Mid.nD Cert.Mid.τ).loc Cert.Mid.main_arg10) = m ((c.tc : Thread Cert.Mid.nD Cert.Mid.τ).loc Cert.Mid.main_arg10)
      ∧ r.2.mem ((c.tc : Thread Cert.Mid.nD Cert.Mid.τ).loc Cert.Mid.main_arg11) = m ((c.tc : Thread Cert.Mid.nD Cert.Mid.τ).loc Cert.Mid.main_arg11)
      ∧ r.2.mem ((c.tc : Thread Cert.Mid.nD Cert.Mid.τ).loc Cert.Mid.main_arg12) = m ((c.tc : Thread Cert.Mid.nD Cert.Mid.τ).loc Cert.Mid.main_arg12))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
      ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
      ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
      ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
      ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
      ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
      ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
      ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
      ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
      ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3)
      ∧ r.2.mem ((c.tc : Thread Cert.MidRefIdeal.nD Cert.MidRefIdeal.τ).loc Cert.MidRefIdeal.main_arg4) = m ((c.tc : Thread Cert.MidRefIdeal.nD Cert.MidRefIdeal.τ).loc Cert.MidRefIdeal.main_arg4)
      ∧ r.2.mem ((c.tc : Thread Cert.MidRefIdeal.nD Cert.MidRefIdeal.τ).loc Cert.MidRefIdeal.main_arg5) = m ((c.tc : Thread Cert.MidRefIdeal.nD Cert.MidRefIdeal.τ).loc Cert.MidRefIdeal.main_arg5)
      ∧ r.2.mem ((c.tc : Thread Cert.MidRefIdeal.nD Cert.MidRefIdeal.τ).loc Cert.MidRefIdeal.main_arg6) = m ((c.tc : Thread Cert.MidRefIdeal.nD Cert.MidRefIdeal.τ).loc Cert.MidRefIdeal.main_arg6)
      ∧ r.2.mem ((c.tc : Thread Cert.MidRefIdeal.nD Cert.MidRefIdeal.τ).loc Cert.MidRefIdeal.main_arg7) = m ((c.tc : Thread Cert.MidRefIdeal.nD Cert.MidRefIdeal.τ).loc Cert.MidRefIdeal.main_arg7)
      ∧ r.2.mem ((c.tc : Thread Cert.MidRefIdeal.nD Cert.MidRefIdeal.τ).loc Cert.MidRefIdeal.main_arg8) = m ((c.tc : Thread Cert.MidRefIdeal.nD Cert.MidRefIdeal.τ).loc Cert.MidRefIdeal.main_arg8)
      ∧ r.2.mem ((c.tc : Thread Cert.MidRefIdeal.nD Cert.MidRefIdeal.τ).loc Cert.MidRefIdeal.main_arg9) = m ((c.tc : Thread Cert.MidRefIdeal.nD Cert.MidRefIdeal.τ).loc Cert.MidRefIdeal.main_arg9)
      ∧ r.2.mem ((c.tc : Thread Cert.MidRefIdeal.nD Cert.MidRefIdeal.τ).loc Cert.MidRefIdeal.main_arg10) = m ((c.tc : Thread Cert.MidRefIdeal.nD Cert.MidRefIdeal.τ).loc Cert.MidRefIdeal.main_arg10)
      ∧ r.2.mem ((c.tc : Thread Cert.MidRefIdeal.nD Cert.MidRefIdeal.τ).loc Cert.MidRefIdeal.main_arg11) = m ((c.tc : Thread Cert.MidRefIdeal.nD Cert.MidRefIdeal.τ).loc Cert.MidRefIdeal.main_arg11)
      ∧ r.2.mem ((c.tc : Thread Cert.MidRefIdeal.nD Cert.MidRefIdeal.τ).loc Cert.MidRefIdeal.main_arg12) = m ((c.tc : Thread Cert.MidRefIdeal.nD Cert.MidRefIdeal.τ).loc Cert.MidRefIdeal.main_arg12))
      ∧ r.2.sem = fun _ => 0)

def quiescent_Y [hY : Cert.Y.Facts] : Prop :=
  ∀ (m : (ℓ : Loc Cert.Y.nD Cert.Y.τ Cert.Y.sig) → Buf (Elt Bits) ℓ) (g : Dev Cert.Y.nD → PrngReg), Pre_Y m →
    θ_run (Cert.Y.defs (F := Bits)) (onTc (τ := Cert.Y.τ) (Cert.Y.main (F := Bits))) ⟨m, fun _ => 0, g⟩ (fun r => (∀ c : Dev Cert.Y.nD,
      r.2.mem ((c.tc : Thread Cert.Y.nD Cert.Y.τ).loc Cert.Y.main_arg0) = m ((c.tc : Thread Cert.Y.nD Cert.Y.τ).loc Cert.Y.main_arg0)
      ∧ r.2.mem ((c.tc : Thread Cert.Y.nD Cert.Y.τ).loc Cert.Y.main_arg1) = m ((c.tc : Thread Cert.Y.nD Cert.Y.τ).loc Cert.Y.main_arg1)
      ∧ r.2.mem ((c.tc : Thread Cert.Y.nD Cert.Y.τ).loc Cert.Y.main_arg2) = m ((c.tc : Thread Cert.Y.nD Cert.Y.τ).loc Cert.Y.main_arg2))
      ∧ r.2.sem = fun _ => 0)

def quiescent_YIdeal [hYIdeal : Cert.YIdeal.Facts] : Prop :=
  ∀ (m : (ℓ : Loc Cert.YIdeal.nD Cert.YIdeal.τ Cert.YIdeal.sig) → Buf (Elt Ideal) ℓ) (g : Dev Cert.YIdeal.nD → PrngReg), Pre_YIdeal m →
    θ_run (Cert.YIdeal.defs (F := Ideal)) (onTc (τ := Cert.YIdeal.τ) (Cert.YIdeal.main (F := Ideal))) ⟨m, fun _ => 0, g⟩ (fun r => (∀ c : Dev Cert.YIdeal.nD,
      r.2.mem ((c.tc : Thread Cert.YIdeal.nD Cert.YIdeal.τ).loc Cert.YIdeal.main_arg0) = m ((c.tc : Thread Cert.YIdeal.nD Cert.YIdeal.τ).loc Cert.YIdeal.main_arg0)
      ∧ r.2.mem ((c.tc : Thread Cert.YIdeal.nD Cert.YIdeal.τ).loc Cert.YIdeal.main_arg1) = m ((c.tc : Thread Cert.YIdeal.nD Cert.YIdeal.τ).loc Cert.YIdeal.main_arg1)
      ∧ r.2.mem ((c.tc : Thread Cert.YIdeal.nD Cert.YIdeal.τ).loc Cert.YIdeal.main_arg2) = m ((c.tc : Thread Cert.YIdeal.nD Cert.YIdeal.τ).loc Cert.YIdeal.main_arg2))
      ∧ r.2.sem = fun _ => 0)

def quiescent_YRefIdeal [hYRefIdeal : Cert.YRefIdeal.Facts] : Prop :=
  ∀ (m : (ℓ : Loc Cert.YRefIdeal.nD Cert.YRefIdeal.τ Cert.YRefIdeal.sig) → Buf (Elt Ideal) ℓ) (g : Dev Cert.YRefIdeal.nD → PrngReg), Pre_YRefIdeal m →
    θ_run (Cert.YRefIdeal.defs (F := Ideal)) (onTc (τ := Cert.YRefIdeal.τ) (Cert.YRefIdeal.main (F := Ideal))) ⟨m, fun _ => 0, g⟩ (fun r => (∀ c : Dev Cert.YRefIdeal.nD,
      r.2.mem ((c.tc : Thread Cert.YRefIdeal.nD Cert.YRefIdeal.τ).loc Cert.YRefIdeal.main_arg0) = m ((c.tc : Thread Cert.YRefIdeal.nD Cert.YRefIdeal.τ).loc Cert.YRefIdeal.main_arg0)
      ∧ r.2.mem ((c.tc : Thread Cert.YRefIdeal.nD Cert.YRefIdeal.τ).loc Cert.YRefIdeal.main_arg1) = m ((c.tc : Thread Cert.YRefIdeal.nD Cert.YRefIdeal.τ).loc Cert.YRefIdeal.main_arg1)
      ∧ r.2.mem ((c.tc : Thread Cert.YRefIdeal.nD Cert.YRefIdeal.τ).loc Cert.YRefIdeal.main_arg2) = m ((c.tc : Thread Cert.YRefIdeal.nD Cert.YRefIdeal.τ).loc Cert.YRefIdeal.main_arg2))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2)
      ∧ r.2.mem ((c.tc : Thread Cert.DwDown.nD Cert.DwDown.τ).loc Cert.DwDown.main_arg3) = m ((c.tc : Thread Cert.DwDown.nD Cert.DwDown.τ).loc Cert.DwDown.main_arg3))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
      ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ r.2.sem = fun _ => 0)

def quiescent_DwDownRefIdeal [hDwDownRefIdeal : Cert.DwDownRefIdeal.Facts] : Prop :=
  ∀ (m : (ℓ : Loc Cert.DwDownRefIdeal.nD Cert.DwDownRefIdeal.τ Cert.DwDownRefIdeal.sig) → Buf (Elt Ideal) ℓ) (g : Dev Cert.DwDownRefIdeal.nD → PrngReg), Pre_DwDownRefIdeal m →
    θ_run (Cert.DwDownRefIdeal.defs (F := Ideal)) (onTc (τ := Cert.DwDownRefIdeal.τ) (Cert.DwDownRefIdeal.main (F := Ideal))) ⟨m, fun _ => 0, g⟩ (fun r => (∀ c : Dev Cert.DwDownRefIdeal.nD,
      r.2.mem ((c.tc : Thread Cert.DwDownRefIdeal.nD Cert.DwDownRefIdeal.τ).loc Cert.DwDownRefIdeal.main_arg0) = m ((c.tc : Thread Cert.DwDownRefIdeal.nD Cert.DwDownRefIdeal.τ).loc Cert.DwDownRefIdeal.main_arg0)
      ∧ r.2.mem ((c.tc : Thread Cert.DwDownRefIdeal.nD Cert.DwDownRefIdeal.τ).loc Cert.DwDownRefIdeal.main_arg1) = m ((c.tc : Thread Cert.DwDownRefIdeal.nD Cert.DwDownRefIdeal.τ).loc Cert.DwDownRefIdeal.main_arg1)
      ∧ r.2.mem ((c.tc : Thread Cert.DwDownRefIdeal.nD Cert.DwDownRefIdeal.τ).loc Cert.DwDownRefIdeal.main_arg2) = m ((c.tc : Thread Cert.DwDownRefIdeal.nD Cert.DwDownRefIdeal.τ).loc Cert.DwDownRefIdeal.main_arg2)
      ∧ r.2.mem ((c.tc : Thread Cert.DwDownRefIdeal.nD Cert.DwDownRefIdeal.τ).loc Cert.DwDownRefIdeal.main_arg3) = m ((c.tc : Thread Cert.DwDownRefIdeal.nD Cert.DwDownRefIdeal.τ).loc Cert.DwDownRefIdeal.main_arg3))
      ∧ r.2.sem = fun _ => 0)

def quiescent_DwGateUp [hDwGateUp : Cert.DwGateUp.Facts] : Prop :=
  ∀ (m : (ℓ : Loc Cert.DwGateUp.nD Cert.DwGateUp.τ Cert.DwGateUp.sig) → Buf (Elt Bits) ℓ) (g : Dev Cert.DwGateUp.nD → PrngReg), Pre_DwGateUp m →
    θ_run (Cert.DwGateUp.defs (F := Bits)) (onTc (τ := Cert.DwGateUp.τ) (Cert.DwGateUp.main (F := Bits))) ⟨m, fun _ => 0, g⟩ (fun r => (∀ c : Dev Cert.DwGateUp.nD,
      r.2.mem ((c.tc : Thread Cert.DwGateUp.nD Cert.DwGateUp.τ).loc Cert.DwGateUp.main_arg0) = m ((c.tc : Thread Cert.DwGateUp.nD Cert.DwGateUp.τ).loc Cert.DwGateUp.main_arg0)
      ∧ r.2.mem ((c.tc : Thread Cert.DwGateUp.nD Cert.DwGateUp.τ).loc Cert.DwGateUp.main_arg1) = m ((c.tc : Thread Cert.DwGateUp.nD Cert.DwGateUp.τ).loc Cert.DwGateUp.main_arg1)
      ∧ r.2.mem ((c.tc : Thread Cert.DwGateUp.nD Cert.DwGateUp.τ).loc Cert.DwGateUp.main_arg2) = m ((c.tc : Thread Cert.DwGateUp.nD Cert.DwGateUp.τ).loc Cert.DwGateUp.main_arg2)
      ∧ r.2.mem ((c.tc : Thread Cert.DwGateUp.nD Cert.DwGateUp.τ).loc Cert.DwGateUp.main_arg3) = m ((c.tc : Thread Cert.DwGateUp.nD Cert.DwGateUp.τ).loc Cert.DwGateUp.main_arg3)
      ∧ r.2.mem ((c.tc : Thread Cert.DwGateUp.nD Cert.DwGateUp.τ).loc Cert.DwGateUp.main_arg4) = m ((c.tc : Thread Cert.DwGateUp.nD Cert.DwGateUp.τ).loc Cert.DwGateUp.main_arg4)
      ∧ r.2.mem ((c.tc : Thread Cert.DwGateUp.nD Cert.DwGateUp.τ).loc Cert.DwGateUp.main_arg5) = m ((c.tc : Thread Cert.DwGateUp.nD Cert.DwGateUp.τ).loc Cert.DwGateUp.main_arg5))
      ∧ r.2.sem = fun _ => 0)

def quiescent_DwGateUpIdeal [hDwGateUpIdeal : Cert.DwGateUpIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg), Pre_DwGateUpIdeal m →
    θ_run (Cert.DwGateUpIdeal.defs (F := Ideal)) (onTc (τ := Cert.DwGateUpIdeal.τ) (Cert.DwGateUpIdeal.main (F := Ideal))) ⟨m, fun _ => 0, g⟩ (fun r => (∀ c : Dev Cert.DwGateUpIdeal.nD,
      r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
      ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1)
      ∧ r.2.mem ((c.tc : Thread Cert.DwGateUpIdeal.nD Cert.DwGateUpIdeal.τ).loc Cert.DwGateUpIdeal.main_arg2) = m ((c.tc : Thread Cert.DwGateUpIdeal.nD Cert.DwGateUpIdeal.τ).loc Cert.DwGateUpIdeal.main_arg2)
      ∧ r.2.mem ((c.tc : Thread Cert.DwGateUpIdeal.nD Cert.DwGateUpIdeal.τ).loc Cert.DwGateUpIdeal.main_arg3) = m ((c.tc : Thread Cert.DwGateUpIdeal.nD Cert.DwGateUpIdeal.τ).loc Cert.DwGateUpIdeal.main_arg3)
      ∧ r.2.mem ((c.tc : Thread Cert.DwGateUpIdeal.nD Cert.DwGateUpIdeal.τ).loc Cert.DwGateUpIdeal.main_arg4) = m ((c.tc : Thread Cert.DwGateUpIdeal.nD Cert.DwGateUpIdeal.τ).loc Cert.DwGateUpIdeal.main_arg4)
      ∧ r.2.mem ((c.tc : Thread Cert.DwGateUpIdeal.nD Cert.DwGateUpIdeal.τ).loc Cert.DwGateUpIdeal.main_arg5) = m ((c.tc : Thread Cert.DwGateUpIdeal.nD Cert.DwGateUpIdeal.τ).loc Cert.DwGateUpIdeal.main_arg5))
      ∧ r.2.sem = fun _ => 0)

def quiescent_DwGateUpRefIdeal [hDwGateUpRefIdeal : Cert.DwGateUpRefIdeal.Facts] : Prop :=
  ∀ (m : (ℓ : Loc Cert.DwGateUpRefIdeal.nD Cert.DwGateUpRefIdeal.τ Cert.DwGateUpRefIdeal.sig) → Buf (Elt Ideal) ℓ) (g : Dev Cert.DwGateUpRefIdeal.nD → PrngReg), Pre_DwGateUpRefIdeal m →
    θ_run (Cert.DwGateUpRefIdeal.defs (F := Ideal)) (onTc (τ := Cert.DwGateUpRefIdeal.τ) (Cert.DwGateUpRefIdeal.main (F := Ideal))) ⟨m, fun _ => 0, g⟩ (fun r => (∀ c : Dev Cert.DwGateUpRefIdeal.nD,
      r.2.mem ((c.tc : Thread Cert.DwGateUpRefIdeal.nD Cert.DwGateUpRefIdeal.τ).loc Cert.DwGateUpRefIdeal.main_arg0) = m ((c.tc : Thread Cert.DwGateUpRefIdeal.nD Cert.DwGateUpRefIdeal.τ).loc Cert.DwGateUpRefIdeal.main_arg0)
      ∧ r.2.mem ((c.tc : Thread Cert.DwGateUpRefIdeal.nD Cert.DwGateUpRefIdeal.τ).loc Cert.DwGateUpRefIdeal.main_arg1) = m ((c.tc : Thread Cert.DwGateUpRefIdeal.nD Cert.DwGateUpRefIdeal.τ).loc Cert.DwGateUpRefIdeal.main_arg1)
      ∧ r.2.mem ((c.tc : Thread Cert.DwGateUpRefIdeal.nD Cert.DwGateUpRefIdeal.τ).loc Cert.DwGateUpRefIdeal.main_arg2) = m ((c.tc : Thread Cert.DwGateUpRefIdeal.nD Cert.DwGateUpRefIdeal.τ).loc Cert.DwGateUpRefIdeal.main_arg2)
      ∧ r.2.mem ((c.tc : Thread Cert.DwGateUpRefIdeal.nD Cert.DwGateUpRefIdeal.τ).loc Cert.DwGateUpRefIdeal.main_arg3) = m ((c.tc : Thread Cert.DwGateUpRefIdeal.nD Cert.DwGateUpRefIdeal.τ).loc Cert.DwGateUpRefIdeal.main_arg3)
      ∧ r.2.mem ((c.tc : Thread Cert.DwGateUpRefIdeal.nD Cert.DwGateUpRefIdeal.τ).loc Cert.DwGateUpRefIdeal.main_arg4) = m ((c.tc : Thread Cert.DwGateUpRefIdeal.nD Cert.DwGateUpRefIdeal.τ).loc Cert.DwGateUpRefIdeal.main_arg4)
      ∧ r.2.mem ((c.tc : Thread Cert.DwGateUpRefIdeal.nD Cert.DwGateUpRefIdeal.τ).loc Cert.DwGateUpRefIdeal.main_arg5) = m ((c.tc : Thread Cert.DwGateUpRefIdeal.nD Cert.DwGateUpRefIdeal.τ).loc Cert.DwGateUpRefIdeal.main_arg5))
      ∧ r.2.sem = fun _ => 0)

def preserves_XPrep_XPrepIdeal : Prop :=
  True

def algebraic_XPrepIdeal_XPrepRefIdeal [hXPrepIdeal : Cert.XPrepIdeal.Facts] [hXPrepRefIdeal : Cert.XPrepRefIdeal.Facts] : Prop :=
  ∀ (m : (ℓ : Loc Cert.XPrepIdeal.nD Cert.XPrepIdeal.τ Cert.XPrepIdeal.sig) → Buf (Elt Ideal) ℓ) (g : Dev Cert.XPrepIdeal.nD → PrngReg)
    (m' : (ℓ : Loc Cert.XPrepRefIdeal.nD Cert.XPrepRefIdeal.τ Cert.XPrepRefIdeal.sig) → Buf (Elt Ideal) ℓ) (g' : Dev Cert.XPrepRefIdeal.nD → PrngReg), Pre_XPrepIdeal m →
    (∀ c : Dev Cert.XPrepIdeal.nD,
      m' ((c.tc : Thread Cert.XPrepRefIdeal.nD Cert.XPrepRefIdeal.τ).loc Cert.XPrepRefIdeal.main_arg0) = m ((c.tc : Thread Cert.XPrepIdeal.nD Cert.XPrepIdeal.τ).loc Cert.XPrepIdeal.main_arg0)
      ∧ m' ((c.tc : Thread Cert.XPrepRefIdeal.nD Cert.XPrepRefIdeal.τ).loc Cert.XPrepRefIdeal.main_arg1) = m ((c.tc : Thread Cert.XPrepIdeal.nD Cert.XPrepIdeal.τ).loc Cert.XPrepIdeal.main_arg1)
      ∧ m' ((c.tc : Thread Cert.XPrepRefIdeal.nD Cert.XPrepRefIdeal.τ).loc Cert.XPrepRefIdeal.main_arg2) = m ((c.tc : Thread Cert.XPrepIdeal.nD Cert.XPrepIdeal.τ).loc Cert.XPrepIdeal.main_arg2)) →
    ∃ (v0 : (c : Dev Cert.XPrepIdeal.nD) → Buf (Elt Ideal) ((c.tc : Thread Cert.XPrepIdeal.nD Cert.XPrepIdeal.τ).loc Cert.XPrepIdeal.main_v2_0)) (v1 : (c : Dev Cert.XPrepIdeal.nD) → Buf (Elt Ideal) ((c.tc : Thread Cert.XPrepIdeal.nD Cert.XPrepIdeal.τ).loc Cert.XPrepIdeal.main_v2_1)) (v2 : (c : Dev Cert.XPrepIdeal.nD) → Buf (Elt Ideal) ((c.tc : Thread Cert.XPrepIdeal.nD Cert.XPrepIdeal.τ).loc Cert.XPrepIdeal.main_v2_2)),
      θ_run (Cert.XPrepIdeal.defs (F := Ideal)) (onTc (τ := Cert.XPrepIdeal.τ) (Cert.XPrepIdeal.main (F := Ideal))) ⟨m, fun _ => 0, g⟩ (fun r => ∀ c : Dev Cert.XPrepIdeal.nD,
          r.2.mem ((c.tc : Thread Cert.XPrepIdeal.nD Cert.XPrepIdeal.τ).loc Cert.XPrepIdeal.main_v2_0) = v0 c
          ∧ r.2.mem ((c.tc : Thread Cert.XPrepIdeal.nD Cert.XPrepIdeal.τ).loc Cert.XPrepIdeal.main_v2_1) = v1 c
          ∧ r.2.mem ((c.tc : Thread Cert.XPrepIdeal.nD Cert.XPrepIdeal.τ).loc Cert.XPrepIdeal.main_v2_2) = v2 c
          ∧ r.2.mem ((c.tc : Thread Cert.XPrepIdeal.nD Cert.XPrepIdeal.τ).loc Cert.XPrepIdeal.main_arg0) = m ((c.tc : Thread Cert.XPrepIdeal.nD Cert.XPrepIdeal.τ).loc Cert.XPrepIdeal.main_arg0)
          ∧ r.2.mem ((c.tc : Thread Cert.XPrepIdeal.nD Cert.XPrepIdeal.τ).loc Cert.XPrepIdeal.main_arg1) = m ((c.tc : Thread Cert.XPrepIdeal.nD Cert.XPrepIdeal.τ).loc Cert.XPrepIdeal.main_arg1)
          ∧ r.2.mem ((c.tc : Thread Cert.XPrepIdeal.nD Cert.XPrepIdeal.τ).loc Cert.XPrepIdeal.main_arg2) = m ((c.tc : Thread Cert.XPrepIdeal.nD Cert.XPrepIdeal.τ).loc Cert.XPrepIdeal.main_arg2))
      ∧ θ_run (Cert.XPrepRefIdeal.defs (F := Ideal)) (onTc (τ := Cert.XPrepRefIdeal.τ) (Cert.XPrepRefIdeal.main (F := Ideal))) ⟨m', fun _ => 0, g'⟩ (fun r => ∀ c : Dev Cert.XPrepRefIdeal.nD,
          r.2.mem ((c.tc : Thread Cert.XPrepRefIdeal.nD Cert.XPrepRefIdeal.τ).loc Cert.XPrepRefIdeal.main_v2_0) = v0 c
          ∧ r.2.mem ((c.tc : Thread Cert.XPrepRefIdeal.nD Cert.XPrepRefIdeal.τ).loc Cert.XPrepRefIdeal.main_v2_1) = v1 c
          ∧ r.2.mem ((c.tc : Thread Cert.XPrepRefIdeal.nD Cert.XPrepRefIdeal.τ).loc Cert.XPrepRefIdeal.main_v2_2) = v2 c
          ∧ r.2.mem ((c.tc : Thread Cert.XPrepRefIdeal.nD Cert.XPrepRefIdeal.τ).loc Cert.XPrepRefIdeal.main_arg0) = m' ((c.tc : Thread Cert.XPrepRefIdeal.nD Cert.XPrepRefIdeal.τ).loc Cert.XPrepRefIdeal.main_arg0)
          ∧ r.2.mem ((c.tc : Thread Cert.XPrepRefIdeal.nD Cert.XPrepRefIdeal.τ).loc Cert.XPrepRefIdeal.main_arg1) = m' ((c.tc : Thread Cert.XPrepRefIdeal.nD Cert.XPrepRefIdeal.τ).loc Cert.XPrepRefIdeal.main_arg1)
          ∧ r.2.mem ((c.tc : Thread Cert.XPrepRefIdeal.nD Cert.XPrepRefIdeal.τ).loc Cert.XPrepRefIdeal.main_arg2) = m' ((c.tc : Thread Cert.XPrepRefIdeal.nD Cert.XPrepRefIdeal.τ).loc Cert.XPrepRefIdeal.main_arg2))

def preserves_DyPrep_DyPrepIdeal : Prop :=
  True

def algebraic_DyPrepIdeal_DyPrepRefIdeal [hDyPrepIdeal : Cert.DyPrepIdeal.Facts] [hDyPrepRefIdeal : Cert.DyPrepRefIdeal.Facts] : Prop :=
  ∀ (m : (ℓ : Loc Cert.DyPrepIdeal.nD Cert.DyPrepIdeal.τ Cert.DyPrepIdeal.sig) → Buf (Elt Ideal) ℓ) (g : Dev Cert.DyPrepIdeal.nD → PrngReg)
    (m' : (ℓ : Loc Cert.DyPrepRefIdeal.nD Cert.DyPrepRefIdeal.τ Cert.DyPrepRefIdeal.sig) → Buf (Elt Ideal) ℓ) (g' : Dev Cert.DyPrepRefIdeal.nD → PrngReg), Pre_DyPrepIdeal m →
    (∀ c : Dev Cert.DyPrepIdeal.nD,
      m' ((c.tc : Thread Cert.DyPrepRefIdeal.nD Cert.DyPrepRefIdeal.τ).loc Cert.DyPrepRefIdeal.main_arg0) = m ((c.tc : Thread Cert.DyPrepIdeal.nD Cert.DyPrepIdeal.τ).loc Cert.DyPrepIdeal.main_arg0)
      ∧ m' ((c.tc : Thread Cert.DyPrepRefIdeal.nD Cert.DyPrepRefIdeal.τ).loc Cert.DyPrepRefIdeal.main_arg1) = m ((c.tc : Thread Cert.DyPrepIdeal.nD Cert.DyPrepIdeal.τ).loc Cert.DyPrepIdeal.main_arg1)) →
    ∃ (v0 : (c : Dev Cert.DyPrepIdeal.nD) → Buf (Elt Ideal) ((c.tc : Thread Cert.DyPrepIdeal.nD Cert.DyPrepIdeal.τ).loc Cert.DyPrepIdeal.main_v1_0)) (v1 : (c : Dev Cert.DyPrepIdeal.nD) → Buf (Elt Ideal) ((c.tc : Thread Cert.DyPrepIdeal.nD Cert.DyPrepIdeal.τ).loc Cert.DyPrepIdeal.main_v1_1)),
      θ_run (Cert.DyPrepIdeal.defs (F := Ideal)) (onTc (τ := Cert.DyPrepIdeal.τ) (Cert.DyPrepIdeal.main (F := Ideal))) ⟨m, fun _ => 0, g⟩ (fun r => ∀ c : Dev Cert.DyPrepIdeal.nD,
          r.2.mem ((c.tc : Thread Cert.DyPrepIdeal.nD Cert.DyPrepIdeal.τ).loc Cert.DyPrepIdeal.main_v1_0) = v0 c
          ∧ r.2.mem ((c.tc : Thread Cert.DyPrepIdeal.nD Cert.DyPrepIdeal.τ).loc Cert.DyPrepIdeal.main_v1_1) = v1 c
          ∧ r.2.mem ((c.tc : Thread Cert.DyPrepIdeal.nD Cert.DyPrepIdeal.τ).loc Cert.DyPrepIdeal.main_arg0) = m ((c.tc : Thread Cert.DyPrepIdeal.nD Cert.DyPrepIdeal.τ).loc Cert.DyPrepIdeal.main_arg0)
          ∧ r.2.mem ((c.tc : Thread Cert.DyPrepIdeal.nD Cert.DyPrepIdeal.τ).loc Cert.DyPrepIdeal.main_arg1) = m ((c.tc : Thread Cert.DyPrepIdeal.nD Cert.DyPrepIdeal.τ).loc Cert.DyPrepIdeal.main_arg1))
      ∧ θ_run (Cert.DyPrepRefIdeal.defs (F := Ideal)) (onTc (τ := Cert.DyPrepRefIdeal.τ) (Cert.DyPrepRefIdeal.main (F := Ideal))) ⟨m', fun _ => 0, g'⟩ (fun r => ∀ c : Dev Cert.DyPrepRefIdeal.nD,
          r.2.mem ((c.tc : Thread Cert.DyPrepRefIdeal.nD Cert.DyPrepRefIdeal.τ).loc Cert.DyPrepRefIdeal.main_v1_0) = v0 c
          ∧ r.2.mem ((c.tc : Thread Cert.DyPrepRefIdeal.nD Cert.DyPrepRefIdeal.τ).loc Cert.DyPrepRefIdeal.main_v1_1) = v1 c
          ∧ r.2.mem ((c.tc : Thread Cert.DyPrepRefIdeal.nD Cert.DyPrepRefIdeal.τ).loc Cert.DyPrepRefIdeal.main_arg0) = m' ((c.tc : Thread Cert.DyPrepRefIdeal.nD Cert.DyPrepRefIdeal.τ).loc Cert.DyPrepRefIdeal.main_arg0)
          ∧ r.2.mem ((c.tc : Thread Cert.DyPrepRefIdeal.nD Cert.DyPrepRefIdeal.τ).loc Cert.DyPrepRefIdeal.main_arg1) = m' ((c.tc : Thread Cert.DyPrepRefIdeal.nD Cert.DyPrepRefIdeal.τ).loc Cert.DyPrepRefIdeal.main_arg1))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)
      ∧ m' ((c.tc : Thread Cert.MidRefIdeal.nD Cert.MidRefIdeal.τ).loc Cert.MidRefIdeal.main_arg4) = m ((c.tc : Thread Cert.MidIdeal.nD Cert.MidIdeal.τ).loc Cert.MidIdeal.main_arg4)
      ∧ m' ((c.tc : Thread Cert.MidRefIdeal.nD Cert.MidRefIdeal.τ).loc Cert.MidRefIdeal.main_arg5) = m ((c.tc : Thread Cert.MidIdeal.nD Cert.MidIdeal.τ).loc Cert.MidIdeal.main_arg5)
      ∧ m' ((c.tc : Thread Cert.MidRefIdeal.nD Cert.MidRefIdeal.τ).loc Cert.MidRefIdeal.main_arg6) = m ((c.tc : Thread Cert.MidIdeal.nD Cert.MidIdeal.τ).loc Cert.MidIdeal.main_arg6)
      ∧ m' ((c.tc : Thread Cert.MidRefIdeal.nD Cert.MidRefIdeal.τ).loc Cert.MidRefIdeal.main_arg7) = m ((c.tc : Thread Cert.MidIdeal.nD Cert.MidIdeal.τ).loc Cert.MidIdeal.main_arg7)
      ∧ m' ((c.tc : Thread Cert.MidRefIdeal.nD Cert.MidRefIdeal.τ).loc Cert.MidRefIdeal.main_arg8) = m ((c.tc : Thread Cert.MidIdeal.nD Cert.MidIdeal.τ).loc Cert.MidIdeal.main_arg8)
      ∧ m' ((c.tc : Thread Cert.MidRefIdeal.nD Cert.MidRefIdeal.τ).loc Cert.MidRefIdeal.main_arg9) = m ((c.tc : Thread Cert.MidIdeal.nD Cert.MidIdeal.τ).loc Cert.MidIdeal.main_arg9)
      ∧ m' ((c.tc : Thread Cert.MidRefIdeal.nD Cert.MidRefIdeal.τ).loc Cert.MidRefIdeal.main_arg10) = m ((c.tc : Thread Cert.MidIdeal.nD Cert.MidIdeal.τ).loc Cert.MidIdeal.main_arg10)
      ∧ m' ((c.tc : Thread Cert.MidRefIdeal.nD Cert.MidRefIdeal.τ).loc Cert.MidRefIdeal.main_arg11) = m ((c.tc : Thread Cert.MidIdeal.nD Cert.MidIdeal.τ).loc Cert.MidIdeal.main_arg11)
      ∧ m' ((c.tc : Thread Cert.MidRefIdeal.nD Cert.MidRefIdeal.τ).loc Cert.MidRefIdeal.main_arg12) = m ((c.tc : Thread Cert.MidIdeal.nD Cert.MidIdeal.τ).loc Cert.MidIdeal.main_arg12)) →
    ∃ (v0 : (c : Dev Cert.MidIdeal.nD) → Buf (Elt Ideal) ((c.tc : Thread Cert.MidIdeal.nD Cert.MidIdeal.τ).loc Cert.MidIdeal.main_v9_0)) (v1 : (c : Dev Cert.MidIdeal.nD) → Buf (Elt Ideal) ((c.tc : Thread Cert.MidIdeal.nD Cert.MidIdeal.τ).loc Cert.MidIdeal.main_v9_1)) (v2 : (c : Dev Cert.MidIdeal.nD) → Buf (Elt Ideal) ((c.tc : Thread Cert.MidIdeal.nD Cert.MidIdeal.τ).loc Cert.MidIdeal.main_v9_2)) (v3 : (c : Dev Cert.MidIdeal.nD) → Buf (Elt Ideal) ((c.tc : Thread Cert.MidIdeal.nD Cert.MidIdeal.τ).loc Cert.MidIdeal.main_v9_3)) (v4 : (c : Dev Cert.MidIdeal.nD) → Buf (Elt Ideal) ((c.tc : Thread Cert.MidIdeal.nD Cert.MidIdeal.τ).loc Cert.MidIdeal.main_v9_4)) (v5 : (c : Dev Cert.MidIdeal.nD) → Buf (Elt Ideal) ((c.tc : Thread Cert.MidIdeal.nD Cert.MidIdeal.τ).loc Cert.MidIdeal.main_v9_5)) (v6 : (c : Dev Cert.MidIdeal.nD) → Buf (Elt Ideal) ((c.tc : Thread Cert.MidIdeal.nD Cert.MidIdeal.τ).loc Cert.MidIdeal.main_v9_6)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v9_0) = v0 c
          ∧ r.2.mem ((c.tc : Thread Cert.MidIdeal.nD Cert.MidIdeal.τ).loc Cert.MidIdeal.main_v9_1) = v1 c
          ∧ r.2.mem ((c.tc : Thread Cert.MidIdeal.nD Cert.MidIdeal.τ).loc Cert.MidIdeal.main_v9_2) = v2 c
          ∧ r.2.mem ((c.tc : Thread Cert.MidIdeal.nD Cert.MidIdeal.τ).loc Cert.MidIdeal.main_v9_3) = v3 c
          ∧ r.2.mem ((c.tc : Thread Cert.MidIdeal.nD Cert.MidIdeal.τ).loc Cert.MidIdeal.main_v9_4) = v4 c
          ∧ r.2.mem ((c.tc : Thread Cert.MidIdeal.nD Cert.MidIdeal.τ).loc Cert.MidIdeal.main_v9_5) = v5 c
          ∧ r.2.mem ((c.tc : Thread Cert.MidIdeal.nD Cert.MidIdeal.τ).loc Cert.MidIdeal.main_v9_6) = v6 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3)
          ∧ r.2.mem ((c.tc : Thread Cert.MidIdeal.nD Cert.MidIdeal.τ).loc Cert.MidIdeal.main_arg4) = m ((c.tc : Thread Cert.MidIdeal.nD Cert.MidIdeal.τ).loc Cert.MidIdeal.main_arg4)
          ∧ r.2.mem ((c.tc : Thread Cert.MidIdeal.nD Cert.MidIdeal.τ).loc Cert.MidIdeal.main_arg5) = m ((c.tc : Thread Cert.MidIdeal.nD Cert.MidIdeal.τ).loc Cert.MidIdeal.main_arg5)
          ∧ r.2.mem ((c.tc : Thread Cert.MidIdeal.nD Cert.MidIdeal.τ).loc Cert.MidIdeal.main_arg6) = m ((c.tc : Thread Cert.MidIdeal.nD Cert.MidIdeal.τ).loc Cert.MidIdeal.main_arg6)
          ∧ r.2.mem ((c.tc : Thread Cert.MidIdeal.nD Cert.MidIdeal.τ).loc Cert.MidIdeal.main_arg7) = m ((c.tc : Thread Cert.MidIdeal.nD Cert.MidIdeal.τ).loc Cert.MidIdeal.main_arg7)
          ∧ r.2.mem ((c.tc : Thread Cert.MidIdeal.nD Cert.MidIdeal.τ).loc Cert.MidIdeal.main_arg8) = m ((c.tc : Thread Cert.MidIdeal.nD Cert.MidIdeal.τ).loc Cert.MidIdeal.main_arg8)
          ∧ r.2.mem ((c.tc : Thread Cert.MidIdeal.nD Cert.MidIdeal.τ).loc Cert.MidIdeal.main_arg9) = m ((c.tc : Thread Cert.MidIdeal.nD Cert.MidIdeal.τ).loc Cert.MidIdeal.main_arg9)
          ∧ r.2.mem ((c.tc : Thread Cert.MidIdeal.nD Cert.MidIdeal.τ).loc Cert.MidIdeal.main_arg10) = m ((c.tc : Thread Cert.MidIdeal.nD Cert.MidIdeal.τ).loc Cert.MidIdeal.main_arg10)
          ∧ r.2.mem ((c.tc : Thread Cert.MidIdeal.nD Cert.MidIdeal.τ).loc Cert.MidIdeal.main_arg11) = m ((c.tc : Thread Cert.MidIdeal.nD Cert.MidIdeal.τ).loc Cert.MidIdeal.main_arg11)
          ∧ r.2.mem ((c.tc : Thread Cert.MidIdeal.nD Cert.MidIdeal.τ).loc Cert.MidIdeal.main_arg12) = m ((c.tc : Thread Cert.MidIdeal.nD Cert.MidIdeal.τ).loc Cert.MidIdeal.main_arg12))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v8_0) = v0 c
          ∧ r.2.mem ((c.tc : Thread Cert.MidRefIdeal.nD Cert.MidRefIdeal.τ).loc Cert.MidRefIdeal.main_v8_1) = v1 c
          ∧ r.2.mem ((c.tc : Thread Cert.MidRefIdeal.nD Cert.MidRefIdeal.τ).loc Cert.MidRefIdeal.main_v8_2) = v2 c
          ∧ r.2.mem ((c.tc : Thread Cert.MidRefIdeal.nD Cert.MidRefIdeal.τ).loc Cert.MidRefIdeal.main_v8_3) = v3 c
          ∧ r.2.mem ((c.tc : Thread Cert.MidRefIdeal.nD Cert.MidRefIdeal.τ).loc Cert.MidRefIdeal.main_v8_4) = v4 c
          ∧ r.2.mem ((c.tc : Thread Cert.MidRefIdeal.nD Cert.MidRefIdeal.τ).loc Cert.MidRefIdeal.main_v8_5) = v5 c
          ∧ r.2.mem ((c.tc : Thread Cert.MidRefIdeal.nD Cert.MidRefIdeal.τ).loc Cert.MidRefIdeal.main_v8_6) = v6 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3)
          ∧ r.2.mem ((c.tc : Thread Cert.MidRefIdeal.nD Cert.MidRefIdeal.τ).loc Cert.MidRefIdeal.main_arg4) = m' ((c.tc : Thread Cert.MidRefIdeal.nD Cert.MidRefIdeal.τ).loc Cert.MidRefIdeal.main_arg4)
          ∧ r.2.mem ((c.tc : Thread Cert.MidRefIdeal.nD Cert.MidRefIdeal.τ).loc Cert.MidRefIdeal.main_arg5) = m' ((c.tc : Thread Cert.MidRefIdeal.nD Cert.MidRefIdeal.τ).loc Cert.MidRefIdeal.main_arg5)
          ∧ r.2.mem ((c.tc : Thread Cert.MidRefIdeal.nD Cert.MidRefIdeal.τ).loc Cert.MidRefIdeal.main_arg6) = m' ((c.tc : Thread Cert.MidRefIdeal.nD Cert.MidRefIdeal.τ).loc Cert.MidRefIdeal.main_arg6)
          ∧ r.2.mem ((c.tc : Thread Cert.MidRefIdeal.nD Cert.MidRefIdeal.τ).loc Cert.MidRefIdeal.main_arg7) = m' ((c.tc : Thread Cert.MidRefIdeal.nD Cert.MidRefIdeal.τ).loc Cert.MidRefIdeal.main_arg7)
          ∧ r.2.mem ((c.tc : Thread Cert.MidRefIdeal.nD Cert.MidRefIdeal.τ).loc Cert.MidRefIdeal.main_arg8) = m' ((c.tc : Thread Cert.MidRefIdeal.nD Cert.MidRefIdeal.τ).loc Cert.MidRefIdeal.main_arg8)
          ∧ r.2.mem ((c.tc : Thread Cert.MidRefIdeal.nD Cert.MidRefIdeal.τ).loc Cert.MidRefIdeal.main_arg9) = m' ((c.tc : Thread Cert.MidRefIdeal.nD Cert.MidRefIdeal.τ).loc Cert.MidRefIdeal.main_arg9)
          ∧ r.2.mem ((c.tc : Thread Cert.MidRefIdeal.nD Cert.MidRefIdeal.τ).loc Cert.MidRefIdeal.main_arg10) = m' ((c.tc : Thread Cert.MidRefIdeal.nD Cert.MidRefIdeal.τ).loc Cert.MidRefIdeal.main_arg10)
          ∧ r.2.mem ((c.tc : Thread Cert.MidRefIdeal.nD Cert.MidRefIdeal.τ).loc Cert.MidRefIdeal.main_arg11) = m' ((c.tc : Thread Cert.MidRefIdeal.nD Cert.MidRefIdeal.τ).loc Cert.MidRefIdeal.main_arg11)
          ∧ r.2.mem ((c.tc : Thread Cert.MidRefIdeal.nD Cert.MidRefIdeal.τ).loc Cert.MidRefIdeal.main_arg12) = m' ((c.tc : Thread Cert.MidRefIdeal.nD Cert.MidRefIdeal.τ).loc Cert.MidRefIdeal.main_arg12))

def preserves_Y_YIdeal : Prop :=
  True

def algebraic_YIdeal_YRefIdeal [hYIdeal : Cert.YIdeal.Facts] [hYRefIdeal : Cert.YRefIdeal.Facts] : Prop :=
  ∀ (m : (ℓ : Loc Cert.YIdeal.nD Cert.YIdeal.τ Cert.YIdeal.sig) → Buf (Elt Ideal) ℓ) (g : Dev Cert.YIdeal.nD → PrngReg)
    (m' : (ℓ : Loc Cert.YRefIdeal.nD Cert.YRefIdeal.τ Cert.YRefIdeal.sig) → Buf (Elt Ideal) ℓ) (g' : Dev Cert.YRefIdeal.nD → PrngReg), Pre_YIdeal m →
    (∀ c : Dev Cert.YIdeal.nD,
      m' ((c.tc : Thread Cert.YRefIdeal.nD Cert.YRefIdeal.τ).loc Cert.YRefIdeal.main_arg0) = m ((c.tc : Thread Cert.YIdeal.nD Cert.YIdeal.τ).loc Cert.YIdeal.main_arg0)
      ∧ m' ((c.tc : Thread Cert.YRefIdeal.nD Cert.YRefIdeal.τ).loc Cert.YRefIdeal.main_arg1) = m ((c.tc : Thread Cert.YIdeal.nD Cert.YIdeal.τ).loc Cert.YIdeal.main_arg1)
      ∧ m' ((c.tc : Thread Cert.YRefIdeal.nD Cert.YRefIdeal.τ).loc Cert.YRefIdeal.main_arg2) = m ((c.tc : Thread Cert.YIdeal.nD Cert.YIdeal.τ).loc Cert.YIdeal.main_arg2)) →
    ∃ (v0 : (c : Dev Cert.YIdeal.nD) → Buf (Elt Ideal) ((c.tc : Thread Cert.YIdeal.nD Cert.YIdeal.τ).loc Cert.YIdeal.main_v1)),
      θ_run (Cert.YIdeal.defs (F := Ideal)) (onTc (τ := Cert.YIdeal.τ) (Cert.YIdeal.main (F := Ideal))) ⟨m, fun _ => 0, g⟩ (fun r => ∀ c : Dev Cert.YIdeal.nD,
          r.2.mem ((c.tc : Thread Cert.YIdeal.nD Cert.YIdeal.τ).loc Cert.YIdeal.main_v1) = v0 c
          ∧ r.2.mem ((c.tc : Thread Cert.YIdeal.nD Cert.YIdeal.τ).loc Cert.YIdeal.main_arg0) = m ((c.tc : Thread Cert.YIdeal.nD Cert.YIdeal.τ).loc Cert.YIdeal.main_arg0)
          ∧ r.2.mem ((c.tc : Thread Cert.YIdeal.nD Cert.YIdeal.τ).loc Cert.YIdeal.main_arg1) = m ((c.tc : Thread Cert.YIdeal.nD Cert.YIdeal.τ).loc Cert.YIdeal.main_arg1)
          ∧ r.2.mem ((c.tc : Thread Cert.YIdeal.nD Cert.YIdeal.τ).loc Cert.YIdeal.main_arg2) = m ((c.tc : Thread Cert.YIdeal.nD Cert.YIdeal.τ).loc Cert.YIdeal.main_arg2))
      ∧ θ_run (Cert.YRefIdeal.defs (F := Ideal)) (onTc (τ := Cert.YRefIdeal.τ) (Cert.YRefIdeal.main (F := Ideal))) ⟨m', fun _ => 0, g'⟩ (fun r => ∀ c : Dev Cert.YRefIdeal.nD,
          r.2.mem ((c.tc : Thread Cert.YRefIdeal.nD Cert.YRefIdeal.τ).loc Cert.YRefIdeal.main_v1) = v0 c
          ∧ r.2.mem ((c.tc : Thread Cert.YRefIdeal.nD Cert.YRefIdeal.τ).loc Cert.YRefIdeal.main_arg0) = m' ((c.tc : Thread Cert.YRefIdeal.nD Cert.YRefIdeal.τ).loc Cert.YRefIdeal.main_arg0)
          ∧ r.2.mem ((c.tc : Thread Cert.YRefIdeal.nD Cert.YRefIdeal.τ).loc Cert.YRefIdeal.main_arg1) = m' ((c.tc : Thread Cert.YRefIdeal.nD Cert.YRefIdeal.τ).loc Cert.YRefIdeal.main_arg1)
          ∧ r.2.mem ((c.tc : Thread Cert.YRefIdeal.nD Cert.YRefIdeal.τ).loc Cert.YRefIdeal.main_arg2) = m' ((c.tc : Thread Cert.YRefIdeal.nD Cert.YRefIdeal.τ).loc Cert.YRefIdeal.main_arg2))

def preserves_DwDown_DwDownIdeal : Prop :=
  True

def algebraic_DwDownIdeal_DwDownRefIdeal [hDwDownIdeal : Cert.DwDownIdeal.Facts] [hDwDownRefIdeal : Cert.DwDownRefIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownRefIdeal.nD Cert.DwDownRefIdeal.τ Cert.DwDownRefIdeal.sig) → Buf (Elt Ideal) ℓ) (g' : Dev Cert.DwDownRefIdeal.nD → PrngReg), Pre_DwDownIdeal m →
    (∀ c : Dev Cert.DwDownIdeal.nD,
      m' ((c.tc : Thread Cert.DwDownRefIdeal.nD Cert.DwDownRefIdeal.τ).loc Cert.DwDownRefIdeal.main_arg0) = m ((c.tc : Thread Cert.DwDownIdeal.nD Cert.DwDownIdeal.τ).loc Cert.DwDownIdeal.main_arg0)
      ∧ m' ((c.tc : Thread Cert.DwDownRefIdeal.nD Cert.DwDownRefIdeal.τ).loc Cert.DwDownRefIdeal.main_arg1) = m ((c.tc : Thread Cert.DwDownIdeal.nD Cert.DwDownIdeal.τ).loc Cert.DwDownIdeal.main_arg1)
      ∧ m' ((c.tc : Thread Cert.DwDownRefIdeal.nD Cert.DwDownRefIdeal.τ).loc Cert.DwDownRefIdeal.main_arg2) = m ((c.tc : Thread Cert.DwDownIdeal.nD Cert.DwDownIdeal.τ).loc Cert.DwDownIdeal.main_arg2)
      ∧ m' ((c.tc : Thread Cert.DwDownRefIdeal.nD Cert.DwDownRefIdeal.τ).loc Cert.DwDownRefIdeal.main_arg3) = m ((c.tc : Thread Cert.DwDownIdeal.nD Cert.DwDownIdeal.τ).loc Cert.DwDownIdeal.main_arg3)) →
    ∃ (v0 : (c : Dev Cert.DwDownIdeal.nD) → Buf (Elt Ideal) ((c.tc : Thread Cert.DwDownIdeal.nD Cert.DwDownIdeal.τ).loc Cert.DwDownIdeal.main_v3)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v3) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2)
          ∧ r.2.mem ((c.tc : Thread Cert.DwDownIdeal.nD Cert.DwDownIdeal.τ).loc Cert.DwDownIdeal.main_arg3) = m ((c.tc : Thread Cert.DwDownIdeal.nD Cert.DwDownIdeal.τ).loc Cert.DwDownIdeal.main_arg3))
      ∧ θ_run (Cert.DwDownRefIdeal.defs (F := Ideal)) (onTc (τ := Cert.DwDownRefIdeal.τ) (Cert.DwDownRefIdeal.main (F := Ideal))) ⟨m', fun _ => 0, g'⟩ (fun r => ∀ c : Dev Cert.DwDownRefIdeal.nD,
          r.2.mem ((c.tc : Thread Cert.DwDownRefIdeal.nD Cert.DwDownRefIdeal.τ).loc Cert.DwDownRefIdeal.main_v2) = v0 c
          ∧ r.2.mem ((c.tc : Thread Cert.DwDownRefIdeal.nD Cert.DwDownRefIdeal.τ).loc Cert.DwDownRefIdeal.main_arg0) = m' ((c.tc : Thread Cert.DwDownRefIdeal.nD Cert.DwDownRefIdeal.τ).loc Cert.DwDownRefIdeal.main_arg0)
          ∧ r.2.mem ((c.tc : Thread Cert.DwDownRefIdeal.nD Cert.DwDownRefIdeal.τ).loc Cert.DwDownRefIdeal.main_arg1) = m' ((c.tc : Thread Cert.DwDownRefIdeal.nD Cert.DwDownRefIdeal.τ).loc Cert.DwDownRefIdeal.main_arg1)
          ∧ r.2.mem ((c.tc : Thread Cert.DwDownRefIdeal.nD Cert.DwDownRefIdeal.τ).loc Cert.DwDownRefIdeal.main_arg2) = m' ((c.tc : Thread Cert.DwDownRefIdeal.nD Cert.DwDownRefIdeal.τ).loc Cert.DwDownRefIdeal.main_arg2)
          ∧ r.2.mem ((c.tc : Thread Cert.DwDownRefIdeal.nD Cert.DwDownRefIdeal.τ).loc Cert.DwDownRefIdeal.main_arg3) = m' ((c.tc : Thread Cert.DwDownRefIdeal.nD Cert.DwDownRefIdeal.τ).loc Cert.DwDownRefIdeal.main_arg3))

def preserves_DwGateUp_DwGateUpIdeal : Prop :=
  True

def algebraic_DwGateUpIdeal_DwGateUpRefIdeal [hDwGateUpIdeal : Cert.DwGateUpIdeal.Facts] [hDwGateUpRefIdeal : Cert.DwGateUpRefIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg)
    (m' : (ℓ : Loc Cert.DwGateUpRefIdeal.nD Cert.DwGateUpRefIdeal.τ Cert.DwGateUpRefIdeal.sig) → Buf (Elt Ideal) ℓ) (g' : Dev Cert.DwGateUpRefIdeal.nD → PrngReg), Pre_DwGateUpIdeal m →
    (∀ c : Dev Cert.DwGateUpIdeal.nD,
      m' ((c.tc : Thread Cert.DwGateUpRefIdeal.nD Cert.DwGateUpRefIdeal.τ).loc Cert.DwGateUpRefIdeal.main_arg0) = m ((c.tc : Thread Cert.DwGateUpIdeal.nD Cert.DwGateUpIdeal.τ).loc Cert.DwGateUpIdeal.main_arg0)
      ∧ m' ((c.tc : Thread Cert.DwGateUpRefIdeal.nD Cert.DwGateUpRefIdeal.τ).loc Cert.DwGateUpRefIdeal.main_arg1) = m ((c.tc : Thread Cert.DwGateUpIdeal.nD Cert.DwGateUpIdeal.τ).loc Cert.DwGateUpIdeal.main_arg1)
      ∧ m' ((c.tc : Thread Cert.DwGateUpRefIdeal.nD Cert.DwGateUpRefIdeal.τ).loc Cert.DwGateUpRefIdeal.main_arg2) = m ((c.tc : Thread Cert.DwGateUpIdeal.nD Cert.DwGateUpIdeal.τ).loc Cert.DwGateUpIdeal.main_arg2)
      ∧ m' ((c.tc : Thread Cert.DwGateUpRefIdeal.nD Cert.DwGateUpRefIdeal.τ).loc Cert.DwGateUpRefIdeal.main_arg3) = m ((c.tc : Thread Cert.DwGateUpIdeal.nD Cert.DwGateUpIdeal.τ).loc Cert.DwGateUpIdeal.main_arg3)
      ∧ m' ((c.tc : Thread Cert.DwGateUpRefIdeal.nD Cert.DwGateUpRefIdeal.τ).loc Cert.DwGateUpRefIdeal.main_arg4) = m ((c.tc : Thread Cert.DwGateUpIdeal.nD Cert.DwGateUpIdeal.τ).loc Cert.DwGateUpIdeal.main_arg4)
      ∧ m' ((c.tc : Thread Cert.DwGateUpRefIdeal.nD Cert.DwGateUpRefIdeal.τ).loc Cert.DwGateUpRefIdeal.main_arg5) = m ((c.tc : Thread Cert.DwGateUpIdeal.nD Cert.DwGateUpIdeal.τ).loc Cert.DwGateUpIdeal.main_arg5)) →
    ∃ (v0 : (c : Dev Cert.DwGateUpIdeal.nD) → Buf (Elt Ideal) ((c.tc : Thread Cert.DwGateUpIdeal.nD Cert.DwGateUpIdeal.τ).loc Cert.DwGateUpIdeal.main_v4_0)) (v1 : (c : Dev Cert.DwGateUpIdeal.nD) → Buf (Elt Ideal) ((c.tc : Thread Cert.DwGateUpIdeal.nD Cert.DwGateUpIdeal.τ).loc Cert.DwGateUpIdeal.main_v4_1)),
      θ_run (Cert.DwGateUpIdeal.defs (F := Ideal)) (onTc (τ := Cert.DwGateUpIdeal.τ) (Cert.DwGateUpIdeal.main (F := Ideal))) ⟨m, fun _ => 0, g⟩ (fun r => ∀ c : Dev Cert.DwGateUpIdeal.nD,
          r.2.mem ((c.tc : Thread Cert.DwGateUpIdeal.nD Cert.DwGateUpIdeal.τ).loc Cert.DwGateUpIdeal.main_v4_0) = v0 c
          ∧ r.2.mem ((c.tc : Thread Cert.DwGateUpIdeal.nD Cert.DwGateUpIdeal.τ).loc Cert.DwGateUpIdeal.main_v4_1) = v1 c
          ∧ r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
          ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1)
          ∧ r.2.mem ((c.tc : Thread Cert.DwGateUpIdeal.nD Cert.DwGateUpIdeal.τ).loc Cert.DwGateUpIdeal.main_arg2) = m ((c.tc : Thread Cert.DwGateUpIdeal.nD Cert.DwGateUpIdeal.τ).loc Cert.DwGateUpIdeal.main_arg2)
          ∧ r.2.mem ((c.tc : Thread Cert.DwGateUpIdeal.nD Cert.DwGateUpIdeal.τ).loc Cert.DwGateUpIdeal.main_arg3) = m ((c.tc : Thread Cert.DwGateUpIdeal.nD Cert.DwGateUpIdeal.τ).loc Cert.DwGateUpIdeal.main_arg3)
          ∧ r.2.mem ((c.tc : Thread Cert.DwGateUpIdeal.nD Cert.DwGateUpIdeal.τ).loc Cert.DwGateUpIdeal.main_arg4) = m ((c.tc : Thread Cert.DwGateUpIdeal.nD Cert.DwGateUpIdeal.τ).loc Cert.DwGateUpIdeal.main_arg4)
          ∧ r.2.mem ((c.tc : Thread Cert.DwGateUpIdeal.nD Cert.DwGateUpIdeal.τ).loc Cert.DwGateUpIdeal.main_arg5) = m ((c.tc : Thread Cert.DwGateUpIdeal.nD Cert.DwGateUpIdeal.τ).loc Cert.DwGateUpIdeal.main_arg5))
      ∧ θ_run (Cert.DwGateUpRefIdeal.defs (F := Ideal)) (onTc (τ := Cert.DwGateUpRefIdeal.τ) (Cert.DwGateUpRefIdeal.main (F := Ideal))) ⟨m', fun _ => 0, g'⟩ (fun r => ∀ c : Dev Cert.DwGateUpRefIdeal.nD,
          r.2.mem ((c.tc : Thread Cert.DwGateUpRefIdeal.nD Cert.DwGateUpRefIdeal.τ).loc Cert.DwGateUpRefIdeal.main_v3_0) = v0 c
          ∧ r.2.mem ((c.tc : Thread Cert.DwGateUpRefIdeal.nD Cert.DwGateUpRefIdeal.τ).loc Cert.DwGateUpRefIdeal.main_v3_1) = v1 c
          ∧ r.2.mem ((c.tc : Thread Cert.DwGateUpRefIdeal.nD Cert.DwGateUpRefIdeal.τ).loc Cert.DwGateUpRefIdeal.main_arg0) = m' ((c.tc : Thread Cert.DwGateUpRefIdeal.nD Cert.DwGateUpRefIdeal.τ).loc Cert.DwGateUpRefIdeal.main_arg0)
          ∧ r.2.mem ((c.tc : Thread Cert.DwGateUpRefIdeal.nD Cert.DwGateUpRefIdeal.τ).loc Cert.DwGateUpRefIdeal.main_arg1) = m' ((c.tc : Thread Cert.DwGateUpRefIdeal.nD Cert.DwGateUpRefIdeal.τ).loc Cert.DwGateUpRefIdeal.main_arg1)
          ∧ r.2.mem ((c.tc : Thread Cert.DwGateUpRefIdeal.nD Cert.DwGateUpRefIdeal.τ).loc Cert.DwGateUpRefIdeal.main_arg2) = m' ((c.tc : Thread Cert.DwGateUpRefIdeal.nD Cert.DwGateUpRefIdeal.τ).loc Cert.DwGateUpRefIdeal.main_arg2)
          ∧ r.2.mem ((c.tc : Thread Cert.DwGateUpRefIdeal.nD Cert.DwGateUpRefIdeal.τ).loc Cert.DwGateUpRefIdeal.main_arg3) = m' ((c.tc : Thread Cert.DwGateUpRefIdeal.nD Cert.DwGateUpRefIdeal.τ).loc Cert.DwGateUpRefIdeal.main_arg3)
          ∧ r.2.mem ((c.tc : Thread Cert.DwGateUpRefIdeal.nD Cert.DwGateUpRefIdeal.τ).loc Cert.DwGateUpRefIdeal.main_arg4) = m' ((c.tc : Thread Cert.DwGateUpRefIdeal.nD Cert.DwGateUpRefIdeal.τ).loc Cert.DwGateUpRefIdeal.main_arg4)
          ∧ r.2.mem ((c.tc : Thread Cert.DwGateUpRefIdeal.nD Cert.DwGateUpRefIdeal.τ).loc Cert.DwGateUpRefIdeal.main_arg5) = m' ((c.tc : Thread Cert.DwGateUpRefIdeal.nD Cert.DwGateUpRefIdeal.τ).loc Cert.DwGateUpRefIdeal.main_arg5))

def Claim : Prop :=
  ∃ (hXPrep : Cert.XPrep.Facts) (hXPrepIdeal : Cert.XPrepIdeal.Facts) (hXPrepRefIdeal : Cert.XPrepRefIdeal.Facts) (hDyPrep : Cert.DyPrep.Facts) (hDyPrepIdeal : Cert.DyPrepIdeal.Facts) (hDyPrepRefIdeal : Cert.DyPrepRefIdeal.Facts) (hMid : Cert.Mid.Facts) (hMidIdeal : Cert.MidIdeal.Facts) (hMidRefIdeal : Cert.MidRefIdeal.Facts) (hY : Cert.Y.Facts) (hYIdeal : Cert.YIdeal.Facts) (hYRefIdeal : Cert.YRefIdeal.Facts) (hDwDown : Cert.DwDown.Facts) (hDwDownIdeal : Cert.DwDownIdeal.Facts) (hDwDownRefIdeal : Cert.DwDownRefIdeal.Facts) (hDwGateUp : Cert.DwGateUp.Facts) (hDwGateUpIdeal : Cert.DwGateUpIdeal.Facts) (hDwGateUpRefIdeal : Cert.DwGateUpRefIdeal.Facts),
    quiescent_XPrep (hXPrep := hXPrep)
    ∧ quiescent_XPrepIdeal (hXPrepIdeal := hXPrepIdeal)
    ∧ quiescent_XPrepRefIdeal (hXPrepRefIdeal := hXPrepRefIdeal)
    ∧ quiescent_DyPrep (hDyPrep := hDyPrep)
    ∧ quiescent_DyPrepIdeal (hDyPrepIdeal := hDyPrepIdeal)
    ∧ quiescent_DyPrepRefIdeal (hDyPrepRefIdeal := hDyPrepRefIdeal)
    ∧ quiescent_Mid (hMid := hMid)
    ∧ quiescent_MidIdeal (hMidIdeal := hMidIdeal)
    ∧ quiescent_MidRefIdeal (hMidRefIdeal := hMidRefIdeal)
    ∧ quiescent_Y (hY := hY)
    ∧ quiescent_YIdeal (hYIdeal := hYIdeal)
    ∧ quiescent_YRefIdeal (hYRefIdeal := hYRefIdeal)
    ∧ quiescent_DwDown (hDwDown := hDwDown)
    ∧ quiescent_DwDownIdeal (hDwDownIdeal := hDwDownIdeal)
    ∧ quiescent_DwDownRefIdeal (hDwDownRefIdeal := hDwDownRefIdeal)
    ∧ quiescent_DwGateUp (hDwGateUp := hDwGateUp)
    ∧ quiescent_DwGateUpIdeal (hDwGateUpIdeal := hDwGateUpIdeal)
    ∧ quiescent_DwGateUpRefIdeal (hDwGateUpRefIdeal := hDwGateUpRefIdeal)
    ∧ preserves_XPrep_XPrepIdeal
    ∧ algebraic_XPrepIdeal_XPrepRefIdeal (hXPrepIdeal := hXPrepIdeal) (hXPrepRefIdeal := hXPrepRefIdeal)
    ∧ preserves_DyPrep_DyPrepIdeal
    ∧ algebraic_DyPrepIdeal_DyPrepRefIdeal (hDyPrepIdeal := hDyPrepIdeal) (hDyPrepRefIdeal := hDyPrepRefIdeal)
    ∧ preserves_Mid_MidIdeal
    ∧ algebraic_MidIdeal_MidRefIdeal (hMidIdeal := hMidIdeal) (hMidRefIdeal := hMidRefIdeal)
    ∧ preserves_Y_YIdeal
    ∧ algebraic_YIdeal_YRefIdeal (hYIdeal := hYIdeal) (hYRefIdeal := hYRefIdeal)
    ∧ preserves_DwDown_DwDownIdeal
    ∧ algebraic_DwDownIdeal_DwDownRefIdeal (hDwDownIdeal := hDwDownIdeal) (hDwDownRefIdeal := hDwDownRefIdeal)
    ∧ preserves_DwGateUp_DwGateUpIdeal
    ∧ algebraic_DwGateUpIdeal_DwGateUpRefIdeal (hDwGateUpIdeal := hDwGateUpIdeal) (hDwGateUpRefIdeal := hDwGateUpRefIdeal)
-- ==== XPrep.lean ====
abbrev S6144x8192 : Shape := ⟨2, ![6144, 8192]⟩
abbrev S8192 : Shape := ⟨1, ![8192]⟩
abbrev S_ : Shape := ⟨0, ![]⟩
abbrev S1x1 : Shape := ⟨2, ![1, 1]⟩
abbrev S1x8192 : Shape := ⟨2, ![1, 8192]⟩
abbrev S6144x128 : Shape := ⟨2, ![6144, 128]⟩
abbrev S128x8192 : Shape := ⟨2, ![128, 8192]⟩
abbrev S128x128 : Shape := ⟨2, ![128, 128]⟩
abbrev S8x128 : Shape := ⟨2, ![8, 128]⟩
abbrev S128 : Shape := ⟨1, ![128]⟩
abbrev S128x1 : Shape := ⟨2, ![128, 1]⟩
abbrev S16x8x8192 : Shape := ⟨3, ![16, 8, 8192]⟩
abbrev S8x8192 : Shape := ⟨2, ![8, 8192]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 8
  | .vmem => 8
  | .smem => 2
  | _ => 0

abbrev bufTy : (tb : Table) → Fin (tcTables nBuf tb) → BufTy
  | .hbm, ⟨0, _⟩ => ⟨S6144x8192, .bf16⟩
  | .hbm, ⟨1, _⟩ => ⟨S8192, .f32⟩
  | .hbm, ⟨2, _⟩ => ⟨S_, .f32⟩
  | .hbm, ⟨3, _⟩ => ⟨S1x1, .f32⟩
  | .hbm, ⟨4, _⟩ => ⟨S1x8192, .f32⟩
  | .hbm, ⟨5, _⟩ => ⟨S6144x8192, .fp8e4m3⟩
  | .hbm, ⟨6, _⟩ => ⟨S6144x128, .f32⟩
  | .hbm, ⟨7, _⟩ => ⟨S1x1, .f32⟩
  | .local _ .vmem, ⟨0, _⟩ => ⟨S128x8192, .bf16⟩
  | .local _ .vmem, ⟨1, _⟩ => ⟨S128x8192, .bf16⟩
  | .local _ .vmem, ⟨2, _⟩ => ⟨S1x8192, .f32⟩
  | .local _ .vmem, ⟨3, _⟩ => ⟨S128x8192, .fp8e4m3⟩
  | .local _ .vmem, ⟨4, _⟩ => ⟨S128x8192, .fp8e4m3⟩
  | .local _ .vmem, ⟨5, _⟩ => ⟨S128x128, .f32⟩
  | .local _ .vmem, ⟨6, _⟩ => ⟨S128x128, .f32⟩
  | .local _ .vmem, ⟨7, _⟩ => ⟨S8x128, .f32⟩
  | .local _ .smem, ⟨0, _⟩ => ⟨S1x1, .f32⟩
  | .local _ .smem, ⟨1, _⟩ => ⟨S1x1, .f32⟩
  | _, _ => ⟨S6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_stg0_0 : Ref sig .tc := ⟨.smem, 0, rfl⟩
abbrev cc0_stg5_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![48], ![false]⟩

def k0_cond2 (i : grid0.Coords) : BitVec 1 :=
  let arg0 : BitVec 32 := BitVec.ofNat 32 (i 0).val
  let c47_i32 : BitVec 32 := 47#32
  let v168 : BitVec 1 := Scalar.cmpi .eq arg0 c47_i32
  let v169 : BitVec 32 := Scalar.extui v168
  let c0_i32_20 : BitVec 32 := 0#32
  let v170 : BitVec 1 := Scalar.cmpi .ne v169 c0_i32_20
  v170

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x8192 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .smem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== XPrepRefIdeal.lean ====
abbrev S6144x8192 : Shape := ⟨2, ![6144, 8192]⟩
abbrev S8192 : Shape := ⟨1, ![8192]⟩
abbrev S_ : Shape := ⟨0, ![]⟩
abbrev S1x8192 : Shape := ⟨2, ![1, 8192]⟩
abbrev S1x1 : Shape := ⟨2, ![1, 1]⟩
abbrev S6144x128 : Shape := ⟨2, ![6144, 128]⟩
abbrev S6144 : Shape := ⟨1, ![6144]⟩
abbrev S6144x1 : Shape := ⟨2, ![6144, 1]⟩
abbrev S1x6144x8192 : Shape := ⟨3, ![1, 6144, 8192]⟩
abbrev S1 : Shape := ⟨1, ![1]⟩
abbrev S1x1x1 : Shape := ⟨3, ![1, 1, 1]⟩

abbrev nBuf : Space → Nat
  | .hbm => 8
  | .vmem => 6
  | .smem => 0
  | _ => 0

abbrev bufTy : (tb : Table) → Fin (tcTables nBuf tb) → BufTy
  | .hbm, ⟨0, _⟩ => ⟨S6144x8192, .bf16⟩
  | .hbm, ⟨1, _⟩ => ⟨S8192, .f32⟩
  | .hbm, ⟨2, _⟩ => ⟨S_, .f32⟩
  | .hbm, ⟨3, _⟩ => ⟨S1x8192, .f32⟩
  | .hbm, ⟨4, _⟩ => ⟨S1x1, .f32⟩
  | .hbm, ⟨5, _⟩ => ⟨S6144x8192, .fp8e4m3⟩
  | .hbm, ⟨6, _⟩ => ⟨S6144x128, .f32⟩
  | .hbm, ⟨7, _⟩ => ⟨S1x1, .f32⟩
  | .local _ .vmem, ⟨0, _⟩ => ⟨S6144x8192, .bf16⟩
  | .local _ .vmem, ⟨1, _⟩ => ⟨S1x8192, .f32⟩
  | .local _ .vmem, ⟨2, _⟩ => ⟨S1x1, .f32⟩
  | .local _ .vmem, ⟨3, _⟩ => ⟨S6144x8192, .fp8e4m3⟩
  | .local _ .vmem, ⟨4, _⟩ => ⟨S6144x128, .f32⟩
  | .local _ .vmem, ⟨5, _⟩ => ⟨S1x1, .f32⟩
  | _, _ => ⟨S6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x8192 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6144x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== DyPrep.lean ====
abbrev S6144x8192 : Shape := ⟨2, ![6144, 8192]⟩
abbrev S_ : Shape := ⟨0, ![]⟩
abbrev S1x1 : Shape := ⟨2, ![1, 1]⟩
abbrev S256x8192 : Shape := ⟨2, ![256, 8192]⟩
abbrev S8x128 : Shape := ⟨2, ![8, 128]⟩
abbrev S32x8x8192 : Shape := ⟨3, ![32, 8, 8192]⟩
abbrev S8x8192 : Shape := ⟨2, ![8, 8192]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 5
  | .vmem => 5
  | .smem => 2
  | _ => 0

abbrev bufTy : (tb : Table) → Fin (tcTables nBuf tb) → BufTy
  | .hbm, ⟨0, _⟩ => ⟨S6144x8192, .bf16⟩
  | .hbm, ⟨1, _⟩ => ⟨S_, .f32⟩
  | .hbm, ⟨2, _⟩ => ⟨S1x1, .f32⟩
  | .hbm, ⟨3, _⟩ => ⟨S6144x8192, .fp8e5m2⟩
  | .hbm, ⟨4, _⟩ => ⟨S1x1, .f32⟩
  | .local _ .vmem, ⟨0, _⟩ => ⟨S256x8192, .bf16⟩
  | .local _ .vmem, ⟨1, _⟩ => ⟨S256x8192, .bf16⟩
  | .local _ .vmem, ⟨2, _⟩ => ⟨S256x8192, .fp8e5m2⟩
  | .local _ .vmem, ⟨3, _⟩ => ⟨S256x8192, .fp8e5m2⟩
  | .local _ .vmem, ⟨4, _⟩ => ⟨S8x128, .f32⟩
  | .local _ .smem, ⟨0, _⟩ => ⟨S1x1, .f32⟩
  | .local _ .smem, ⟨1, _⟩ => ⟨S1x1, .f32⟩
  | _, _ => ⟨S6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc0_stg0_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![24], ![false]⟩

def k0_cond2 (i : grid0.Coords) : BitVec 1 :=
  let arg0 : BitVec 32 := BitVec.ofNat 32 (i 0).val
  let c23_i32 : BitVec 32 := 23#32
  let v149 : BitVec 1 := Scalar.cmpi .eq arg0 c23_i32
  let v150 : BitVec 32 := Scalar.extui v149
  let c0_i32_12 : BitVec 32 := 0#32
  let v151 : BitVec 1 := Scalar.cmpi .ne v150 c0_i32_12
  v151

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x8192 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== DyPrepRefIdeal.lean ====
abbrev S6144x8192 : Shape := ⟨2, ![6144, 8192]⟩
abbrev S_ : Shape := ⟨0, ![]⟩
abbrev S1x1 : Shape := ⟨2, ![1, 1]⟩
abbrev S1x6144x8192 : Shape := ⟨3, ![1, 6144, 8192]⟩
abbrev S1 : Shape := ⟨1, ![1]⟩
abbrev S1x1x1 : Shape := ⟨3, ![1, 1, 1]⟩

abbrev nBuf : Space → Nat
  | .hbm => 5
  | .vmem => 4
  | .smem => 0
  | _ => 0

abbrev bufTy : (tb : Table) → Fin (tcTables nBuf tb) → BufTy
  | .hbm, ⟨0, _⟩ => ⟨S6144x8192, .bf16⟩
  | .hbm, ⟨1, _⟩ => ⟨S_, .f32⟩
  | .hbm, ⟨2, _⟩ => ⟨S1x1, .f32⟩
  | .hbm, ⟨3, _⟩ => ⟨S6144x8192, .fp8e5m2⟩
  | .hbm, ⟨4, _⟩ => ⟨S1x1, .f32⟩
  | .local _ .vmem, ⟨0, _⟩ => ⟨S6144x8192, .bf16⟩
  | .local _ .vmem, ⟨1, _⟩ => ⟨S1x1, .f32⟩
  | .local _ .vmem, ⟨2, _⟩ => ⟨S6144x8192, .fp8e5m2⟩
  | .local _ .vmem, ⟨3, _⟩ => ⟨S1x1, .f32⟩
  | _, _ => ⟨S6144x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x8192 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Mid.lean ====
abbrev S6144x8192 : Shape := ⟨2, ![6144, 8192]⟩
abbrev S8192x3584 : Shape := ⟨2, ![8192, 3584]⟩
abbrev S3584x8192 : Shape := ⟨2, ![3584, 8192]⟩
abbrev S3584 : Shape := ⟨1, ![3584]⟩
abbrev S_ : Shape := ⟨0, ![]⟩
abbrev S1x1 : Shape := ⟨2, ![1, 1]⟩
abbrev S1x3584 : Shape := ⟨2, ![1, 3584]⟩
abbrev S6144x3584 : Shape := ⟨2, ![6144, 3584]⟩
abbrev S512x8192 : Shape := ⟨2, ![512, 8192]⟩
abbrev S8192x512 : Shape := ⟨2, ![8192, 512]⟩
abbrev S1x512 : Shape := ⟨2, ![1, 512]⟩
abbrev S512x512 : Shape := ⟨2, ![512, 512]⟩
abbrev S8x512 : Shape := ⟨2, ![8, 512]⟩
abbrev S8x128 : Shape := ⟨2, ![8, 128]⟩
abbrev S64x8x512 : Shape := ⟨3, ![64, 8, 512]⟩
abbrev S512 : Shape := ⟨1, ![512]⟩
abbrev S1x8x128 : Shape := ⟨3, ![1, 8, 128]⟩
abbrev S1 : Shape := ⟨1, ![1]⟩
abbrev S1x1x1 : Shape := ⟨3, ![1, 1, 1]⟩

abbrev nBuf : Space → Nat
  | .hbm => 29
  | .vmem => 25
  | .smem => 7
  | _ => 0

abbrev bufTy : (tb : Table) → Fin (tcTables nBuf tb) → BufTy
  | .hbm, ⟨0, _⟩ => ⟨S6144x8192, .fp8e4m3⟩
  | .hbm, ⟨1, _⟩ => ⟨S6144x8192, .fp8e5m2⟩
  | .hbm, ⟨2, _⟩ => ⟨S8192x3584, .fp8e4m3⟩
  | .hbm, ⟨3, _⟩ => ⟨S8192x3584, .fp8e4m3⟩
  | .hbm, ⟨4, _⟩ => ⟨S3584x8192, .fp8e4m3⟩
  | .hbm, ⟨5, _⟩ => ⟨S3584, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1x3584, .f32⟩
  | .hbm, ⟨22, _⟩ => ⟨S6144x3584, .fp8e4m3⟩
  | .hbm, ⟨23, _⟩ => ⟨S6144x3584, .fp8e5m2⟩
  | .hbm, ⟨24, _⟩ => ⟨S6144x3584, .fp8e5m2⟩
  | .hbm, ⟨25, _⟩ => ⟨S1x3584, .f32⟩
  | .hbm, ⟨26, _⟩ => ⟨S1x3584, .f32⟩
  | .hbm, ⟨27, _⟩ => ⟨S1x1, .f32⟩
  | .hbm, ⟨28, _⟩ => ⟨S1x1, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S512x8192, .fp8e5m2⟩
  | .local _ .vmem, ⟨3, _⟩ => ⟨S512x8192, .fp8e5m2⟩
  | .local _ .vmem, ⟨4, _⟩ => ⟨S8192x512, .fp8e4m3⟩
  | .local _ .vmem, ⟨5, _⟩ => ⟨S8192x512, .fp8e4m3⟩
  | .local _ .vmem, ⟨6, _⟩ => ⟨S8192x512, .fp8e4m3⟩
  | .local _ .vmem, ⟨7, _⟩ => ⟨S8192x512, .fp8e4m3⟩
  | .local _ .vmem, ⟨8, _⟩ => ⟨S512x8192, .fp8e4m3⟩
  | .local _ .vmem, ⟨9, _⟩ => ⟨S512x8192, .fp8e4m3⟩
  | .local _ .vmem, ⟨10, _⟩ => ⟨S1x512, .f32⟩
  | .local _ .vmem, ⟨11, _⟩ => ⟨S1x512, .f32⟩
  | .local _ .vmem, ⟨12, _⟩ => ⟨S512x512, .fp8e4m3⟩
  | .local _ .vmem, ⟨13, _⟩ => ⟨S512x512, .fp8e4m3⟩
  | .local _ .vmem, ⟨14, _⟩ => ⟨S512x512, .fp8e5m2⟩
  | .local _ .vmem, ⟨15, _⟩ => ⟨S512x512, .fp8e5m2⟩
  | .local _ .vmem, ⟨16, _⟩ => ⟨S512x512, .fp8e5m2⟩
  | .local _ .vmem, ⟨17, _⟩ => ⟨S512x512, .fp8e5m2⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S8x512, .f32⟩
  | .local _ .vmem, ⟨23, _⟩ => ⟨S8x128, .f32⟩
  | .local _ .vmem, ⟨24, _⟩ => ⟨S8x128, .f32⟩
  | .local _ .smem, ⟨0, _⟩ => ⟨S1x1, .f32⟩
  | .local _ .smem, ⟨1, _⟩ => ⟨S1x1, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9_0 : Ref sig .tc := ⟨.hbm, 22, rfl⟩
abbrev main_v9_1 : Ref sig .tc := ⟨.hbm, 23, rfl⟩
abbrev main_v9_2 : Ref sig .tc := ⟨.hbm, 24, rfl⟩
abbrev main_v9_3 : Ref sig .tc := ⟨.hbm, 25, rfl⟩
abbrev main_v9_4 : Ref sig .tc := ⟨.hbm, 26, rfl⟩
abbrev main_v9_5 : Ref sig .tc := ⟨.hbm, 27, rfl⟩
abbrev main_v9_6 : Ref sig .tc := ⟨.hbm, 28, rfl⟩
abbrev cc0_stg5_0 : Ref sig .tc := ⟨.vmem, 0, rfl⟩
abbrev cc0_stg5_1 : Ref sig .tc := ⟨.vmem, 1, rfl⟩
abbrev cc0_stg6_0 : Ref sig .tc := ⟨.vmem, 2, rfl⟩
abbrev cc0_stg6_1 : Ref sig .tc := ⟨.vmem, 3, rfl⟩
abbrev cc0_stg7_0 : Ref sig .tc := ⟨.vmem, 4, rfl⟩
abbrev cc0_stg7_1 : Ref sig .tc := ⟨.vmem, 5, rfl⟩
abbrev cc0_stg8_0 : Ref sig .tc := ⟨.vmem, 6, rfl⟩
abbrev cc0_stg8_1 : Ref sig .tc := ⟨.vmem, 7, rfl⟩
abbrev cc0_stg9_0 : Ref sig .tc := ⟨.vmem, 8, rfl⟩
abbrev cc0_stg9_1 : Ref sig .tc := ⟨.vmem, 9, rfl⟩
abbrev cc0_stg10_0 : Ref sig .tc := ⟨.vmem, 10, rfl⟩
abbrev cc0_stg10_1 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_stg4_0 : Ref sig .tc := ⟨.smem, 4, rfl⟩
abbrev cc0_stg16_0 : Ref sig .tc := ⟨.smem, 5, rfl⟩
abbrev cc0_stg17_0 : Ref sig .tc := ⟨.smem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem17_0 : DmaSem sig := 28

abbrev nD : Nat := 1
abbrev τ : Topo := Topo.v7x

variable {F : FTy → Type} [FloatOps F]

abbrev grid0 : Pipeline.Grid := ⟨2, ![7, 12], ![false, false]⟩

def k0_cond3 (i : grid0.Coords) : BitVec 1 :=
  let arg1 : BitVec 32 := BitVec.ofNat 32 (i 1).val
  let c11_i32 : BitVec 32 := 11#32
  let v106 : BitVec 1 := Scalar.cmpi .eq arg1 c11_i32
  let v107 : BitVec 32 := Scalar.extui v106
  let c0_i32_56 : BitVec 32 := 0#32
  let v108 : BitVec 1 := Scalar.cmpi .ne v107 c0_i32_56
  v108

def k0_cond4 (i : grid0.Coords) : BitVec 1 :=
  let arg1 : BitVec 32 := BitVec.ofNat 32 (i 1).val
  let c11_i32_57 : BitVec 32 := 11#32
  let v109 : BitVec 1 := Scalar.cmpi .eq arg1 c11_i32_57
  let arg0 : BitVec 32 := BitVec.ofNat 32 (i 0).val
  let c6_i32 : BitVec 32 := 6#32
  let v110 : BitVec 1 := Scalar.cmpi .eq arg0 c6_i32
  let v111 : BitVec 1 := Scalar.andi v109 v110
  let v112 : BitVec 32 := Scalar.extui v111
  let c0_i32_58 : BitVec 32 := 0#32
  let v113 : BitVec 1 := Scalar.cmpi .ne v112 c0_i32_58
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .smem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x8192 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x8192 .fp8e5m2 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S8192x512 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S8192x512 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x8192 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x512 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .fp8e5m2 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S512x512 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .smem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]
-- ==== MidRefIdeal.lean ====
abbrev S6144x8192 : Shape := ⟨2, ![6144, 8192]⟩
abbrev S8192x3584 : Shape := ⟨2, ![8192, 3584]⟩
abbrev S3584x8192 : Shape := ⟨2, ![3584, 8192]⟩
abbrev S3584 : Shape := ⟨1, ![3584]⟩
abbrev S_ : Shape := ⟨0, ![]⟩
abbrev S1x3584 : Shape := ⟨2, ![1, 3584]⟩
abbrev S1x1 : Shape := ⟨2, ![1, 1]⟩
abbrev S6144x3584 : Shape := ⟨2, ![6144, 3584]⟩
abbrev S1x6144x3584 : Shape := ⟨3, ![1, 6144, 3584]⟩
abbrev S1 : Shape := ⟨1, ![1]⟩
abbrev S1x1x1 : Shape := ⟨3, ![1, 1, 1]⟩

abbrev nBuf : Space → Nat
  | .hbm => 28
  | .vmem => 20
  | .smem => 0
  | _ => 0

abbrev bufTy : (tb : Table) → Fin (tcTables nBuf tb) → BufTy
  | .hbm, ⟨0, _⟩ => ⟨S6144x8192, .fp8e4m3⟩
  | .hbm, ⟨1, _⟩ => ⟨S6144x8192, .fp8e5m2⟩
  | .hbm, ⟨2, _⟩ => ⟨S8192x3584, .fp8e4m3⟩
  | .hbm, ⟨3, _⟩ => ⟨S8192x3584, .fp8e4m3⟩
  | .hbm, ⟨4, _⟩ => ⟨S3584x8192, .fp8e4m3⟩
  | .hbm, ⟨5, _⟩ => ⟨S3584, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S1x3584, .f32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S6144x3584, .fp8e4m3⟩
  | .hbm, ⟨22, _⟩ => ⟨S6144x3584, .fp8e5m2⟩
  | .hbm, ⟨23, _⟩ => ⟨S6144x3584, .fp8e5m2⟩
  | .hbm, ⟨24, _⟩ => ⟨S1x3584, .f32⟩
  | .hbm, ⟨25, _⟩ => ⟨S1x3584, .f32⟩
  | .hbm, ⟨26, _⟩ => ⟨S1x1, .f32⟩
  | .hbm, ⟨27, _⟩ => ⟨S1x1, .f32⟩
  | .local _ .vmem, ⟨0, _⟩ => ⟨S6144x8192, .fp8e4m3⟩
  | .local _ .vmem, ⟨1, _⟩ => ⟨S6144x8192, .fp8e5m2⟩
  | .local _ .vmem, ⟨2, _⟩ => ⟨S8192x3584, .fp8e4m3⟩
  | .local _ .vmem, ⟨3, _⟩ => ⟨S8192x3584, .fp8e4m3⟩
  | .local _ .vmem, ⟨4, _⟩ => ⟨S3584x8192, .fp8e4m3⟩
  | .local _ .vmem, ⟨5, _⟩ => ⟨S1x3584, .f32⟩
  | .local _ .vmem, ⟨6, _⟩ => ⟨S1x1, .f32⟩
  | .local _ .vmem, ⟨7, _⟩ => ⟨S1x1, .f32⟩
  | .local _ .vmem, ⟨8, _⟩ => ⟨S1x1, .f32⟩
  | .local _ .vmem, ⟨9, _⟩ => ⟨S1x1, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S6144x3584, .fp8e4m3⟩
  | .local _ .vmem, ⟨14, _⟩ => ⟨S6144x3584, .fp8e5m2⟩
  | .local _ .vmem, ⟨15, _⟩ => ⟨S6144x3584, .fp8e5m2⟩
  | .local _ .vmem, ⟨16, _⟩ => ⟨S1x3584, .f32⟩
  | .local _ .vmem, ⟨17, _⟩ => ⟨S1x3584, .f32⟩
  | .local _ .vmem, ⟨18, _⟩ => ⟨S1x1, .f32⟩
  | .local _ .vmem, ⟨19, _⟩ => ⟨S1x1, .f32⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8_0 : Ref sig .tc := ⟨.hbm, 21, rfl⟩
abbrev main_v8_1 : Ref sig .tc := ⟨.hbm, 22, rfl⟩
abbrev main_v8_2 : Ref sig .tc := ⟨.hbm, 23, rfl⟩
abbrev main_v8_3 : Ref sig .tc := ⟨.hbm, 24, rfl⟩
abbrev main_v8_4 : Ref sig .tc := ⟨.hbm, 25, rfl⟩
abbrev main_v8_5 : Ref sig .tc := ⟨.hbm, 26, rfl⟩
abbrev main_v8_6 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S6144x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x8192 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x3584 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S6144x3584 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S6144x3584 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S6144x3584 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x3584 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x3584 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Y.lean ====
abbrev S6144x3584 : Shape := ⟨2, ![6144, 3584]⟩
abbrev S3584x8192 : Shape := ⟨2, ![3584, 8192]⟩
abbrev S_ : Shape := ⟨0, ![]⟩
abbrev S1x1 : Shape := ⟨2, ![1, 1]⟩
abbrev S6144x8192 : Shape := ⟨2, ![6144, 8192]⟩
abbrev S1024x3584 : Shape := ⟨2, ![1024, 3584]⟩
abbrev S3584x1024 : Shape := ⟨2, ![3584, 1024]⟩
abbrev S1024x1024 : Shape := ⟨2, ![1024, 1024]⟩

abbrev nBuf : Space → Nat
  | .hbm => 5
  | .vmem => 6
  | .smem => 1
  | _ => 0

abbrev bufTy : (tb : Table) → Fin (tcTables nBuf tb) → BufTy
  | .hbm, ⟨0, _⟩ => ⟨S6144x3584, .fp8e4m3⟩
  | .hbm, ⟨1, _⟩ => ⟨S3584x8192, .fp8e4m3⟩
  | .hbm, ⟨2, _⟩ => ⟨S_, .f32⟩
  | .hbm, ⟨3, _⟩ => ⟨S1x1, .f32⟩
  | .hbm, ⟨4, _⟩ => ⟨S6144x8192, .bf16⟩
  | .local _ .vmem, ⟨0, _⟩ => ⟨S1024x3584, .fp8e4m3⟩
  | .local _ .vmem, ⟨1, _⟩ => ⟨S1024x3584, .fp8e4m3⟩
  | .local _ .vmem, ⟨2, _⟩ => ⟨S3584x1024, .fp8e4m3⟩
  | .local _ .vmem, ⟨3, _⟩ => ⟨S3584x1024, .fp8e4m3⟩
  | .local _ .vmem, ⟨4, _⟩ => ⟨S1024x1024, .bf16⟩
  | .local _ .vmem, ⟨5, _⟩ => ⟨S1024x1024, .bf16⟩
  | .local _ .smem, ⟨0, _⟩ => ⟨S1x1, .f32⟩
  | _, _ => ⟨S6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![6, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x3584 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S3584x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== YRefIdeal.lean ====
abbrev S6144x3584 : Shape := ⟨2, ![6144, 3584]⟩
abbrev S3584x8192 : Shape := ⟨2, ![3584, 8192]⟩
abbrev S_ : Shape := ⟨0, ![]⟩
abbrev S1x1 : Shape := ⟨2, ![1, 1]⟩
abbrev S6144x8192 : Shape := ⟨2, ![6144, 8192]⟩

abbrev nBuf : Space → Nat
  | .hbm => 5
  | .vmem => 4
  | .smem => 0
  | _ => 0

abbrev bufTy : (tb : Table) → Fin (tcTables nBuf tb) → BufTy
  | .hbm, ⟨0, _⟩ => ⟨S6144x3584, .fp8e4m3⟩
  | .hbm, ⟨1, _⟩ => ⟨S3584x8192, .fp8e4m3⟩
  | .hbm, ⟨2, _⟩ => ⟨S_, .f32⟩
  | .hbm, ⟨3, _⟩ => ⟨S1x1, .f32⟩
  | .hbm, ⟨4, _⟩ => ⟨S6144x8192, .bf16⟩
  | .local _ .vmem, ⟨0, _⟩ => ⟨S6144x3584, .fp8e4m3⟩
  | .local _ .vmem, ⟨1, _⟩ => ⟨S3584x8192, .fp8e4m3⟩
  | .local _ .vmem, ⟨2, _⟩ => ⟨S1x1, .f32⟩
  | .local _ .vmem, ⟨3, _⟩ => ⟨S6144x8192, .bf16⟩
  | _, _ => ⟨S6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6144x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x8192 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x8192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== DwDown.lean ====
abbrev S6144x3584 : Shape := ⟨2, ![6144, 3584]⟩
abbrev S6144x8192 : Shape := ⟨2, ![6144, 8192]⟩
abbrev S3584 : Shape := ⟨1, ![3584]⟩
abbrev S_ : Shape := ⟨0, ![]⟩
abbrev S3584x1 : Shape := ⟨2, ![3584, 1]⟩
abbrev S3584x128 : Shape := ⟨2, ![3584, 128]⟩
abbrev S1x1 : Shape := ⟨2, ![1, 1]⟩
abbrev S3584x8192 : Shape := ⟨2, ![3584, 8192]⟩
abbrev S6144x896 : Shape := ⟨2, ![6144, 896]⟩
abbrev S6144x1024 : Shape := ⟨2, ![6144, 1024]⟩
abbrev S896x128 : Shape := ⟨2, ![896, 128]⟩
abbrev S896x1024 : Shape := ⟨2, ![896, 1024]⟩
abbrev S896x1 : Shape := ⟨2, ![896, 1]⟩

abbrev nBuf : Space → Nat
  | .hbm => 8
  | .vmem => 8
  | .smem => 1
  | _ => 0

abbrev bufTy : (tb : Table) → Fin (tcTables nBuf tb) → BufTy
  | .hbm, ⟨0, _⟩ => ⟨S6144x3584, .fp8e4m3⟩
  | .hbm, ⟨1, _⟩ => ⟨S6144x8192, .fp8e5m2⟩
  | .hbm, ⟨2, _⟩ => ⟨S3584, .f32⟩
  | .hbm, ⟨3, _⟩ => ⟨S_, .f32⟩
  | .hbm, ⟨4, _⟩ => ⟨S3584x1, .f32⟩
  | .hbm, ⟨5, _⟩ => ⟨S3584x128, .f32⟩
  | .hbm, ⟨6, _⟩ => ⟨S1x1, .f32⟩
  | .hbm, ⟨7, _⟩ => ⟨S3584x8192, .bf16⟩
  | .local _ .vmem, ⟨0, _⟩ => ⟨S6144x896, .fp8e4m3⟩
  | .local _ .vmem, ⟨1, _⟩ => ⟨S6144x896, .fp8e4m3⟩
  | .local _ .vmem, ⟨2, _⟩ => ⟨S6144x1024, .fp8e5m2⟩
  | .local _ .vmem, ⟨3, _⟩ => ⟨S6144x1024, .fp8e5m2⟩
  | .local _ .vmem, ⟨4, _⟩ => ⟨S896x128, .f32⟩
  | .local _ .vmem, ⟨5, _⟩ => ⟨S896x128, .f32⟩
  | .local _ .vmem, ⟨6, _⟩ => ⟨S896x1024, .bf16⟩
  | .local _ .vmem, ⟨7, _⟩ => ⟨S896x1024, .bf16⟩
  | .local _ .smem, ⟨0, _⟩ => ⟨S1x1, .f32⟩
  | _, _ => ⟨S6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S6144x896 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S6144x1024 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S896x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S896x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DwDownRefIdeal.lean ====
abbrev S6144x3584 : Shape := ⟨2, ![6144, 3584]⟩
abbrev S6144x8192 : Shape := ⟨2, ![6144, 8192]⟩
abbrev S3584 : Shape := ⟨1, ![3584]⟩
abbrev S_ : Shape := ⟨0, ![]⟩
abbrev S3584x1 : Shape := ⟨2, ![3584, 1]⟩
abbrev S1x1 : Shape := ⟨2, ![1, 1]⟩
abbrev S3584x8192 : Shape := ⟨2, ![3584, 8192]⟩

abbrev nBuf : Space → Nat
  | .hbm => 7
  | .vmem => 5
  | .smem => 0
  | _ => 0

abbrev bufTy : (tb : Table) → Fin (tcTables nBuf tb) → BufTy
  | .hbm, ⟨0, _⟩ => ⟨S6144x3584, .fp8e4m3⟩
  | .hbm, ⟨1, _⟩ => ⟨S6144x8192, .fp8e5m2⟩
  | .hbm, ⟨2, _⟩ => ⟨S3584, .f32⟩
  | .hbm, ⟨3, _⟩ => ⟨S_, .f32⟩
  | .hbm, ⟨4, _⟩ => ⟨S3584x1, .f32⟩
  | .hbm, ⟨5, _⟩ => ⟨S1x1, .f32⟩
  | .hbm, ⟨6, _⟩ => ⟨S3584x8192, .bf16⟩
  | .local _ .vmem, ⟨0, _⟩ => ⟨S6144x3584, .fp8e4m3⟩
  | .local _ .vmem, ⟨1, _⟩ => ⟨S6144x8192, .fp8e5m2⟩
  | .local _ .vmem, ⟨2, _⟩ => ⟨S3584x1, .f32⟩
  | .local _ .vmem, ⟨3, _⟩ => ⟨S1x1, .f32⟩
  | .local _ .vmem, ⟨4, _⟩ => ⟨S3584x8192, .bf16⟩
  | _, _ => ⟨S6144x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6144x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S3584x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== DwGateUp.lean ====
abbrev S6144x8192 : Shape := ⟨2, ![6144, 8192]⟩
abbrev S6144x3584 : Shape := ⟨2, ![6144, 3584]⟩
abbrev S_ : Shape := ⟨0, ![]⟩
abbrev S1x1 : Shape := ⟨2, ![1, 1]⟩
abbrev S8192x3584 : Shape := ⟨2, ![8192, 3584]⟩
abbrev S6144x1024 : Shape := ⟨2, ![6144, 1024]⟩
abbrev S6144x512 : Shape := ⟨2, ![6144, 512]⟩
abbrev S1024x512 : Shape := ⟨2, ![1024, 512]⟩

abbrev nBuf : Space → Nat
  | .hbm => 12
  | .vmem => 10
  | .smem => 2
  | _ => 0

abbrev bufTy : (tb : Table) → Fin (tcTables nBuf tb) → BufTy
  | .hbm, ⟨0, _⟩ => ⟨S6144x8192, .fp8e4m3⟩
  | .hbm, ⟨1, _⟩ => ⟨S6144x3584, .fp8e5m2⟩
  | .hbm, ⟨2, _⟩ => ⟨S6144x3584, .fp8e5m2⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1x1, .f32⟩
  | .hbm, ⟨9, _⟩ => ⟨S1x1, .f32⟩
  | .hbm, ⟨10, _⟩ => ⟨S8192x3584, .bf16⟩
  | .hbm, ⟨11, _⟩ => ⟨S8192x3584, .bf16⟩
  | .local _ .vmem, ⟨0, _⟩ => ⟨S6144x1024, .fp8e4m3⟩
  | .local _ .vmem, ⟨1, _⟩ => ⟨S6144x1024, .fp8e4m3⟩
  | .local _ .vmem, ⟨2, _⟩ => ⟨S6144x512, .fp8e5m2⟩
  | .local _ .vmem, ⟨3, _⟩ => ⟨S6144x512, .fp8e5m2⟩
  | .local _ .vmem, ⟨4, _⟩ => ⟨S6144x512, .fp8e5m2⟩
  | .local _ .vmem, ⟨5, _⟩ => ⟨S6144x512, .fp8e5m2⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .smem, ⟨0, _⟩ => ⟨S1x1, .f32⟩
  | .local _ .smem, ⟨1, _⟩ => ⟨S1x1, .f32⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .smem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S6144x1024 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S6144x512 .fp8e5m2 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S6144x512 .fp8e5m2 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DwGateUpRefIdeal.lean ====
abbrev S6144x8192 : Shape := ⟨2, ![6144, 8192]⟩
abbrev S6144x3584 : Shape := ⟨2, ![6144, 3584]⟩
abbrev S_ : Shape := ⟨0, ![]⟩
abbrev S1x1 : Shape := ⟨2, ![1, 1]⟩
abbrev S8192x3584 : Shape := ⟨2, ![8192, 3584]⟩

abbrev nBuf : Space → Nat
  | .hbm => 11
  | .vmem => 8
  | .smem => 0
  | _ => 0

abbrev bufTy : (tb : Table) → Fin (tcTables nBuf tb) → BufTy
  | .hbm, ⟨0, _⟩ => ⟨S6144x8192, .fp8e4m3⟩
  | .hbm, ⟨1, _⟩ => ⟨S6144x3584, .fp8e5m2⟩
  | .hbm, ⟨2, _⟩ => ⟨S6144x3584, .fp8e5m2⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1x1, .f32⟩
  | .hbm, ⟨7, _⟩ => ⟨S1x1, .f32⟩
  | .hbm, ⟨8, _⟩ => ⟨S1x1, .f32⟩
  | .hbm, ⟨9, _⟩ => ⟨S8192x3584, .bf16⟩
  | .hbm, ⟨10, _⟩ => ⟨S8192x3584, .bf16⟩
  | .local _ .vmem, ⟨0, _⟩ => ⟨S6144x8192, .fp8e4m3⟩
  | .local _ .vmem, ⟨1, _⟩ => ⟨S6144x3584, .fp8e5m2⟩
  | .local _ .vmem, ⟨2, _⟩ => ⟨S6144x3584, .fp8e5m2⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S8192x3584, .bf16⟩
  | .local _ .vmem, ⟨7, _⟩ => ⟨S8192x3584, .bf16⟩
  | _, _ => ⟨S6144x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6144x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6144x3584 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6144x3584 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x3584 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x3584 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Max.lean ====
module

public import Idealize.ShloMosaic.Lib.Pipeline.ValueKit

@[expose] public section

set_option maxRecDepth 16384

noncomputable section

open Idealize.ShloMosaic

/-! Maxima of absolute values over the extended reals, and what a fold of `max` is bounded by. -/

namespace Cert.Max

/-- The absolute value. -/
def abs (x : EReal) : EReal := max x (-x)

theorem abs_nonneg (x : EReal) : 0 ≤ abs x := by
  rw [abs, le_max_iff]
  rcases le_total 0 x with h | h
  · exact .inl h
  · exact .inr (EReal.neg_nonneg.mpr h)

/-- The word the maxima start from reads `-∞`. -/
theorem neg_inf : Ideal.ofBits .f32 0xFF800000#32 = ⊥ := by
  simp only [Ideal.ofBits, Ideal.ieee]
  rw [show ((0xFF800000#32 : BitVec 32).extractLsb' (8 + 23) 1 == 1#1) = true from by decide,
    show ((0xFF800000#32 : BitVec 32).extractLsb' 23 8).toNat = 255 from by decide,
    show ((0xFF800000#32 : BitVec 32).extractLsb' 0 23).toNat = 0 from by decide]
  rfl

/-- What bounds a maximum started from `-∞`. -/
theorem fold_le {ι : Type} [Fintype ι] (f : ι → EReal) (b : EReal) :
    Finset.fold max (Ideal.ofBits .f32 0xFF800000#32) f Finset.univ ≤ b ↔ ∀ i, f i ≤ b := by
  rw [neg_inf, Finset.fold_max_le]; simp

/-- The largest absolute value of a matrix. -/
def amax {a b : ℕ} (f : Fin a → Fin b → EReal) : EReal := ⨆ i, ⨆ j, abs (f i j)

theorem amax_le {a b : ℕ} (f : Fin a → Fin b → EReal) (x : EReal) : amax f ≤ x ↔ ∀ i j, abs (f i j) ≤ x := by
  simp only [amax, iSup_le_iff]

/-- The largest absolute value of a matrix's column. -/
def colmax {a b : ℕ} (f : Fin a → Fin b → EReal) (j : Fin b) : EReal := ⨆ i, abs (f i j)

theorem colmax_le {a b : ℕ} (f : Fin a → Fin b → EReal) (j : Fin b) (x : EReal) : colmax f j ≤ x ↔ ∀ i, abs (f i j) ≤ x := by
  simp only [colmax, iSup_le_iff]

/-- Two numbers with the same upper bounds are equal. -/
theorem eq_of_le_iff {x y : EReal} (h : ∀ b, x ≤ b ↔ y ≤ b) : x = y :=
  le_antisymm ((h y).mpr le_rfl) ((h x).mp le_rfl)

end Cert.Max
end
-- ==== Proof.PrepMax.lean ====
module

public import proofs.«01_k».proof.Proof.Max

@[expose] public section

set_option maxRecDepth 16384

noncomputable section

open Idealize.ShloMosaic

/-! What the two quantise calls share: the codes of a value, a maximum taken one slice after another, and the largest absolute
    value of a matrix of 6144 rows and 8192 columns kept by row modulo 8 and column modulo 128. -/

namespace Cert.Prep

/-- The codes of `v` at the scale `s`: the quotient clipped between the numbers of the words `lo` and `hi`. -/
def code (lo hi : BitVec 32) (v s : EReal) : EReal := min (Ideal.ofBits .f32 hi) (max (Ideal.ofBits .f32 lo) (Ideal.div v s))

/-- The 128 columns from column `o` on of a matrix of 8 rows. -/
theorem slice (v : FVec Ideal (⟨2, ![8, 8192]⟩ : Shape) .f32) (o : ℕ) (h : Shape.Slices (⟨2, ![8, 8192]⟩ : Shape) ![0, o] (⟨2, ![8, 128]⟩ : Shape))
    (r : Fin 8) (l : Fin 128) (k : Fin 64) (ho : o = 128 * k.val) :
    extractStridedSlice (⟨2, ![8, 128]⟩ : Shape) ![0, o] v h (ix2 r l)
      = v (ix2 r (⟨128 * k.val + l.val, by have := k.isLt; have := l.isLt; omega⟩ : Fin 8192)) := by
  subst ho
  refine congrArg v (funext fun a => ?_)
  match a with
  | ⟨0, _⟩ => exact Fin.ext (Nat.zero_add _)
  | ⟨1, _⟩ => exact Fin.ext rfl

/-- What bounds the first of 64 numbers. -/
theorem first (f : Fin 64 → EReal) (b : EReal) {s : Shape} (e : FVec Ideal s .f32) (y : s.Idx) (he : e y = f 0) :
    e y ≤ b ↔ ∀ k : Fin 64, k.val ≤ 0 → f k ≤ b := by
  rw [he]
  exact ⟨fun H k hk => by rw [show k = 0 from Fin.ext (by simpa using hk)]; exact H, fun H => H 0 le_rfl⟩

/-- What bounds the maximum of the first of 64 numbers, from what bounds the maximum of one less. -/
theorem step (f : Fin 64 → EReal) (b : EReal) (n : ℕ) (hn : n + 1 < 64) {s : Shape} (a e : FVec Ideal s .f32) (y : s.Idx)
    (ha : a y ≤ b ↔ ∀ k : Fin 64, k.val ≤ n → f k ≤ b) (he : e y = f ⟨n + 1, hn⟩) :
    maximumf a e y ≤ b ↔ ∀ k : Fin 64, k.val ≤ n + 1 → f k ≤ b := by
  show max (a y) (e y) ≤ b ↔ _
  rw [max_le_iff, ha, he]
  constructor
  · rintro ⟨h1, h2⟩ k hk
    by_cases e : k.val = n + 1
    · rw [show k = ⟨n + 1, hn⟩ from Fin.ext e]; exact h2
    · exact h1 k (by omega)
  · intro H
    exact ⟨fun k hk => H k (by omega), H ⟨n + 1, hn⟩ le_rfl⟩

/-- The bound of a scratch's update by a block of `8 * G` rows, in the whole matrix's rows and columns. -/
theorem blk_le (G q : ℕ) (hq : q + G ≤ 768) (u : Fin 64 → Fin G → EReal) (f : Fin 6144 → Fin 8192 → EReal) (r l : ℕ) (hr : r < 8) (hl : l < 128)
    (hu : ∀ (k : Fin 64) (g : Fin G) (i : Fin 6144) (j : Fin 8192), i.val = 8 * q + (g.val * 8 + r) → j.val = 128 * k.val + l → u k g = f i j) (b : EReal) :
    (∀ k g, Cert.Max.abs (u k g) ≤ b)
      ↔ ∀ (i : Fin 6144) (j : Fin 8192), q ≤ i.val / 8 → i.val / 8 < q + G → i.val % 8 = r → j.val % 128 = l → Cert.Max.abs (f i j) ≤ b := by
  constructor
  · intro H i j h1 h2 h3 h4
    have hj := j.isLt
    rw [← hu ⟨j.val / 128, by omega⟩ ⟨i.val / 8 - q, by omega⟩ i j (by show i.val = 8 * q + ((i.val / 8 - q) * 8 + r); omega)
      (by show j.val = 128 * (j.val / 128) + l; omega)]
    exact H _ _
  · intro H k g
    have hk := k.isLt
    have hg := g.isLt
    rw [hu k g ⟨8 * q + (g.val * 8 + r), by omega⟩ ⟨128 * k.val + l, by omega⟩ rfl rfl]
    exact H _ _ (by simp only; omega) (by simp only; omega) (by simp only; omega) (by simp only; omega)

/-- The maximum of the scratch is the largest absolute value of the matrix. -/
theorem amax_of (f : Fin 6144 → Fin 8192 → EReal) (s : Fin 8 → Fin 128 → EReal)
    (hs : ∀ r l b, s r l ≤ b ↔ 0 ≤ b ∧ ∀ (i : Fin 6144) (j : Fin 8192), i.val % 8 = r.val → j.val % 128 = l.val → Cert.Max.abs (f i j) ≤ b)
    (v : EReal) (hv : ∀ b, v ≤ b ↔ ∀ r l, s r l ≤ b) : v = Cert.Max.amax f := by
  refine Cert.Max.eq_of_le_iff fun b => ?_
  rw [hv, Cert.Max.amax_le]
  constructor
  · intro H i j
    exact ((hs ⟨i.val % 8, Nat.mod_lt _ (by omega)⟩ ⟨j.val % 128, Nat.mod_lt _ (by omega)⟩ b).mp (H _ _)).2 i j rfl rfl
  · intro H r l
    exact (hs r l b).mpr ⟨(Cert.Max.abs_nonneg _).trans (H 0 0), fun i j _ _ => H i j⟩

end Cert.Prep
end
-- ==== Proof.XPrepValue.lean ====
module

public import proofs.«01_k».proof.Defs
public import proofs.«01_k».proof.Proof.Gen.XPrepIdeal.Value
public import proofs.«01_k».proof.Proof.Gen.XPrepRefIdeal.Value
public import proofs.«01_k».proof.Proof.PrepMax
public import Idealize.ShloMosaic.Lib.Pipeline.ReadBack
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.XPrepIdeal.Val
open Cert.XPrepIdeal Cert.XPrepIdeal.Gen

/-- One over the root of the mean square of a row, the mean raised by the small constant of the norm. -/
def inv (f : Fin 8192 → EReal) : EReal :=
  Ideal.div (Ideal.ofBits .f32 0x3F800000#32) (Ideal.sqrt (Ideal.div (∑ k, f k * f k) (Ideal.ofBits .f32 0x46000000#32) + Ideal.ofBits .f32 0x3727C5AC#32))

/-- The normed inputs: the input times its row's inverse root mean square and its column's weight. -/
def normed (x : FVec Ideal S6144x8192 .bf16) (g : FVec Ideal S8192 .f32) (i : Fin 6144) (j : Fin 8192) : EReal :=
  x (ix2 i j) * inv (fun k => x (ix2 i k)) * g (ix1 j)

/-- The codes of the normed inputs at one scale. -/
def codes (x : FVec Ideal S6144x8192 .bf16) (g : FVec Ideal S8192 .f32) (s : FVec Ideal S_ .f32) : FVec Ideal S6144x8192 .fp8e4m3 :=
  fun y => Cert.Prep.code 0xC3E00000#32 0x43E00000#32 (normed x g (y 0) (y 1)) (s ix0)

/-- A code at a place whose coordinates are known. -/
theorem codes_at (x : FVec Ideal S6144x8192 .bf16) (g : FVec Ideal S8192 .f32) (s : FVec Ideal S_ .f32) (e : S6144x8192.Idx) (i : Fin 6144) (j : Fin 8192)
    (hi : (e 0).val = i.val) (hj : (e 1).val = j.val) : Cert.Prep.code 0xC3E00000#32 0x43E00000#32 (normed x g i j) (s ix0) = codes x g s e := by
  obtain rfl : e 0 = i := Fin.ext hi
  obtain rfl : e 1 = j := Fin.ext hj
  rfl

/-- The rows' inverse root mean squares, each in 128 columns. -/
def invs (x : FVec Ideal S6144x8192 .bf16) : FVec Ideal S6144x128 .f32 := fun y => inv (fun k => x (ix2 (y 0) k))

/-- An inverse root mean square at a place whose row is known. -/
theorem invs_at (x : FVec Ideal S6144x8192 .bf16) (e : S6144x128.Idx) (i : Fin 6144) (hi : (e 0).val = i.val) : inv (fun k => x (ix2 i k)) = invs x e := by
  obtain rfl : e 0 = i := Fin.ext hi
  rfl

/-- Which block of its array each window shows at each grid point. -/
theorem idx : ∀ t : Fin cfg0.N, win0_0.index t = ![0, 0] ∧ win0_1.index t = ![t.val, 0] ∧ win0_2.index t = ![0, 0] ∧ win0_3.index t = ![t.val, 0]
    ∧ win0_4.index t = ![t.val, 0] ∧ win0_5.index t = ![0, 0] :=
  (by decide +kernel : ∀ t : Fin grid0.N, _)

/-- There are 48 grid points. -/
theorem lt (t : Fin cfg0.N) : t.val < 48 := lt_of_lt_of_eq t.isLt (show cfg0.N = 48 from N_0)

/-- What bounds the maximum of the first 29 groups of 128 columns. -/
theorem k0_pay11_le (x : FVec Ideal S16x8x8192 .f32) (r : Fin 8) (l : Fin 128) (b : EReal) : k0_pay11 (F := Ideal) x (ix2 r l) ≤ b
    ↔ ∀ k : Fin 64, k.val ≤ 28 → (fun k : Fin 64 => k0_pay10 (F := Ideal) x (ix2 r (⟨128 * k.val + l.val, by have := k.isLt; have := l.isLt; omega⟩ : Fin 8192))) k ≤ b := by
  unfold k0_pay11
  try dsimp only
  refine Cert.Prep.step _ b 27 (by omega) _ _ _ ?_ (Cert.Prep.slice _ _ _ r l ⟨28, by omega⟩ rfl)
  refine Cert.Prep.step _ b 26 (by omega) _ _ _ ?_ (Cert.Prep.slice _ _ _ r l ⟨27, by omega⟩ rfl)
  refine Cert.Prep.step _ b 25 (by omega) _ _ _ ?_ (Cert.Prep.slice _ _ _ r l ⟨26, by omega⟩ rfl)
  refine Cert.Prep.step _ b 24 (by omega) _ _ _ ?_ (Cert.Prep.slice _ _ _ r l ⟨25, by omega⟩ rfl)
  refine Cert.Prep.step _ b 23 (by omega) _ _ _ ?_ (Cert.Prep.slice _ _ _ r l ⟨24, by omega⟩ rfl)
  refine Cert.Prep.step _ b 22 (by omega) _ _ _ ?_ (Cert.Prep.slice _ _ _ r l ⟨23, by omega⟩ rfl)
  refine Cert.Prep.step _ b 21 (by omega) _ _ _ ?_ (Cert.Prep.slice _ _ _ r l ⟨22, by omega⟩ rfl)
  refine Cert.Prep.step _ b 20 (by omega) _ _ _ ?_ (Cert.Prep.slice _ _ _ r l ⟨21, by omega⟩ rfl)
  refine Cert.Prep.step _ b 19 (by omega) _ _ _ ?_ (Cert.Prep.slice _ _ _ r l ⟨20, by omega⟩ rfl)
  refine Cert.Prep.step _ b 18 (by omega) _ _ _ ?_ (Cert.Prep.slice _ _ _ r l ⟨19, by omega⟩ rfl)
  refine Cert.Prep.step _ b 17 (by omega) _ _ _ ?_ (Cert.Prep.slice _ _ _ r l ⟨18, by omega⟩ rfl)
  refine Cert.Prep.step _ b 16 (by omega) _ _ _ ?_ (Cert.Prep.slice _ _ _ r l ⟨17, by omega⟩ rfl)
  refine Cert.Prep.step _ b 15 (by omega) _ _ _ ?_ (Cert.Prep.slice _ _ _ r l ⟨16, by omega⟩ rfl)
  refine Cert.Prep.step _ b 14 (by omega) _ _ _ ?_ (Cert.Prep.slice _ _ _ r l ⟨15, by omega⟩ rfl)
  refine Cert.Prep.step _ b 13 (by omega) _ _ _ ?_ (Cert.Prep.slice _ _ _ r l ⟨14, by omega⟩ rfl)
  refine Cert.Prep.step _ b 12 (by omega) _ _ _ ?_ (Cert.Prep.slice _ _ _ r l ⟨13, by omega⟩ rfl)
  refine Cert.Prep.step _ b 11 (by omega) _ _ _ ?_ (Cert.Prep.slice _ _ _ r l ⟨12, by omega⟩ rfl)
  refine Cert.Prep.step _ b 10 (by omega) _ _ _ ?_ (Cert.Prep.slice _ _ _ r l ⟨11, by omega⟩ rfl)
  refine Cert.Prep.step _ b 9 (by omega) _ _ _ ?_ (Cert.Prep.slice _ _ _ r l ⟨10, by omega⟩ rfl)
  refine Cert.Prep.step _ b 8 (by omega) _ _ _ ?_ (Cert.Prep.slice _ _ _ r l ⟨9, by omega⟩ rfl)
  refine Cert.Prep.step _ b 7 (by omega) _ _ _ ?_ (Cert.Prep.slice _ _ _ r l ⟨8, by omega⟩ rfl)
  refine Cert.Prep.step _ b 6 (by omega) _ _ _ ?_ (Cert.Prep.slice _ _ _ r l ⟨7, by omega⟩ rfl)
  refine Cert.Prep.step _ b 5 (by omega) _ _ _ ?_ (Cert.Prep.slice _ _ _ r l ⟨6, by omega⟩ rfl)
  refine Cert.Prep.step _ b 4 (by omega) _ _ _ ?_ (Cert.Prep.slice _ _ _ r l ⟨5, by omega⟩ rfl)
  refine Cert.Prep.step _ b 3 (by omega) _ _ _ ?_ (Cert.Prep.slice _ _ _ r l ⟨4, by omega⟩ rfl)
  refine Cert.Prep.step _ b 2 (by omega) _ _ _ ?_ (Cert.Prep.slice _ _ _ r l ⟨3, by omega⟩ rfl)
  refine Cert.Prep.step _ b 1 (by omega) _ _ _ ?_ (Cert.Prep.slice _ _ _ r l ⟨2, by omega⟩ rfl)
  refine Cert.Prep.step _ b 0 (by omega) _ _ _ ?_ (Cert.Prep.slice _ _ _ r l ⟨1, by omega⟩ rfl)
  exact Cert.Prep.first (fun k : Fin 64 => k0_pay10 (F := Ideal) x (ix2 r (⟨128 * k.val + l.val, by have := k.isLt; have := l.isLt; omega⟩ : Fin 8192))) b _ _ (Cert.Prep.slice _ _ _ r l 0 rfl)

/-- The next group of 128 columns. -/
theorem k0_pay12_eq (x : FVec Ideal S16x8x8192 .f32) (r : Fin 8) (l : Fin 128) : k0_pay12 (F := Ideal) x (ix2 r l) = (fun k : Fin 64 => k0_pay10 (F := Ideal) x (ix2 r (⟨128 * k.val + l.val, by have := k.isLt; have := l.isLt; omega⟩ : Fin 8192))) ⟨29, by omega⟩ := by
  unfold k0_pay12
  exact Cert.Prep.slice _ _ _ r l ⟨29, by omega⟩ rfl

/-- The next group of 128 columns. -/
theorem k0_pay14_eq (x : FVec Ideal S16x8x8192 .f32) (r : Fin 8) (l : Fin 128) : k0_pay14 (F := Ideal) (k0_pay10 (F := Ideal) x) (ix2 r l) = (fun k : Fin 64 => k0_pay10 (F := Ideal) x (ix2 r (⟨128 * k.val + l.val, by have := k.isLt; have := l.isLt; omega⟩ : Fin 8192))) ⟨59, by omega⟩ := by
  unfold k0_pay14
  exact Cert.Prep.slice _ _ _ r l ⟨59, by omega⟩ rfl

/-- What bounds the maximum of the first 59 groups. -/
theorem k0_pay13_le (x : FVec Ideal S16x8x8192 .f32) (r : Fin 8) (l : Fin 128) (b : EReal) : k0_pay13 (F := Ideal) (k0_pay10 (F := Ideal) x) (k0_pay11 (F := Ideal) x) (k0_pay12 (F := Ideal) x) (ix2 r l) ≤ b
    ↔ ∀ k : Fin 64, k.val ≤ 58 → (fun k : Fin 64 => k0_pay10 (F := Ideal) x (ix2 r (⟨128 * k.val + l.val, by have := k.isLt; have := l.isLt; omega⟩ : Fin 8192))) k ≤ b := by
  unfold k0_pay13
  try dsimp only
  refine Cert.Prep.step _ b 57 (by omega) _ _ _ ?_ (Cert.Prep.slice _ _ _ r l ⟨58, by omega⟩ rfl)
  refine Cert.Prep.step _ b 56 (by omega) _ _ _ ?_ (Cert.Prep.slice _ _ _ r l ⟨57, by omega⟩ rfl)
  refine Cert.Prep.step _ b 55 (by omega) _ _ _ ?_ (Cert.Prep.slice _ _ _ r l ⟨56, by omega⟩ rfl)
  refine Cert.Prep.step _ b 54 (by omega) _ _ _ ?_ (Cert.Prep.slice _ _ _ r l ⟨55, by omega⟩ rfl)
  refine Cert.Prep.step _ b 53 (by omega) _ _ _ ?_ (Cert.Prep.slice _ _ _ r l ⟨54, by omega⟩ rfl)
  refine Cert.Prep.step _ b 52 (by omega) _ _ _ ?_ (Cert.Prep.slice _ _ _ r l ⟨53, by omega⟩ rfl)
  refine Cert.Prep.step _ b 51 (by omega) _ _ _ ?_ (Cert.Prep.slice _ _ _ r l ⟨52, by omega⟩ rfl)
  refine Cert.Prep.step _ b 50 (by omega) _ _ _ ?_ (Cert.Prep.slice _ _ _ r l ⟨51, by omega⟩ rfl)
  refine Cert.Prep.step _ b 49 (by omega) _ _ _ ?_ (Cert.Prep.slice _ _ _ r l ⟨50, by omega⟩ rfl)
  refine Cert.Prep.step _ b 48 (by omega) _ _ _ ?_ (Cert.Prep.slice _ _ _ r l ⟨49, by omega⟩ rfl)
  refine Cert.Prep.step _ b 47 (by omega) _ _ _ ?_ (Cert.Prep.slice _ _ _ r l ⟨48, by omega⟩ rfl)
  refine Cert.Prep.step _ b 46 (by omega) _ _ _ ?_ (Cert.Prep.slice _ _ _ r l ⟨47, by omega⟩ rfl)
  refine Cert.Prep.step _ b 45 (by omega) _ _ _ ?_ (Cert.Prep.slice _ _ _ r l ⟨46, by omega⟩ rfl)
  refine Cert.Prep.step _ b 44 (by omega) _ _ _ ?_ (Cert.Prep.slice _ _ _ r l ⟨45, by omega⟩ rfl)
  refine Cert.Prep.step _ b 43 (by omega) _ _ _ ?_ (Cert.Prep.slice _ _ _ r l ⟨44, by omega⟩ rfl)
  refine Cert.Prep.step _ b 42 (by omega) _ _ _ ?_ (Cert.Prep.slice _ _ _ r l ⟨43, by omega⟩ rfl)
  refine Cert.Prep.step _ b 41 (by omega) _ _ _ ?_ (Cert.Prep.slice _ _ _ r l ⟨42, by omega⟩ rfl)
  refine Cert.Prep.step _ b 40 (by omega) _ _ _ ?_ (Cert.Prep.slice _ _ _ r l ⟨41, by omega⟩ rfl)
  refine Cert.Prep.step _ b 39 (by omega) _ _ _ ?_ (Cert.Prep.slice _ _ _ r l ⟨40, by omega⟩ rfl)
  refine Cert.Prep.step _ b 38 (by omega) _ _ _ ?_ (Cert.Prep.slice _ _ _ r l ⟨39, by omega⟩ rfl)
  refine Cert.Prep.step _ b 37 (by omega) _ _ _ ?_ (Cert.Prep.slice _ _ _ r l ⟨38, by omega⟩ rfl)
  refine Cert.Prep.step _ b 36 (by omega) _ _ _ ?_ (Cert.Prep.slice _ _ _ r l ⟨37, by omega⟩ rfl)
  refine Cert.Prep.step _ b 35 (by omega) _ _ _ ?_ (Cert.Prep.slice _ _ _ r l ⟨36, by omega⟩ rfl)
  refine Cert.Prep.step _ b 34 (by omega) _ _ _ ?_ (Cert.Prep.slice _ _ _ r l ⟨35, by omega⟩ rfl)
  refine Cert.Prep.step _ b 33 (by omega) _ _ _ ?_ (Cert.Prep.slice _ _ _ r l ⟨34, by omega⟩ rfl)
  refine Cert.Prep.step _ b 32 (by omega) _ _ _ ?_ (Cert.Prep.slice _ _ _ r l ⟨33, by omega⟩ rfl)
  refine Cert.Prep.step _ b 31 (by omega) _ _ _ ?_ (Cert.Prep.slice _ _ _ r l ⟨32, by omega⟩ rfl)
  refine Cert.Prep.step _ b 30 (by omega) _ _ _ ?_ (Cert.Prep.slice _ _ _ r l ⟨31, by omega⟩ rfl)
  refine Cert.Prep.step _ b 29 (by omega) _ _ _ ?_ (Cert.Prep.slice _ _ _ r l ⟨30, by omega⟩ rfl)
  exact Cert.Prep.step (fun k : Fin 64 => k0_pay10 (F := Ideal) x (ix2 r (⟨128 * k.val + l.val, by have := k.isLt; have := l.isLt; omega⟩ : Fin 8192))) b 28 (by omega) _ _ _ (k0_pay11_le x r l b) (k0_pay12_eq x r l)

/-- One update of the scratch. -/
theorem upd_le (x : FVec Ideal S16x8x8192 .f32) (p : FVec Ideal S8x128 .f32) (r : Fin 8) (l : Fin 128) (b : EReal) :
    k0_pay1 (F := Ideal) p (k0_pay10 (F := Ideal) x) (k0_pay13 (F := Ideal) (k0_pay10 (F := Ideal) x) (k0_pay11 (F := Ideal) x) (k0_pay12 (F := Ideal) x)) (k0_pay14 (F := Ideal) (k0_pay10 (F := Ideal) x)) (ix2 r l) ≤ b
      ↔ p (ix2 r l) ≤ b ∧ ∀ k : Fin 64, k0_pay10 (F := Ideal) x (ix2 r (⟨128 * k.val + l.val, by have := k.isLt; have := l.isLt; omega⟩ : Fin 8192)) ≤ b := by
  unfold k0_pay1
  try dsimp only
  rw [shapeCast_id]
  refine max_le_iff.trans (and_congr_right' ?_)
  have e : (∀ k : Fin 64, k.val ≤ 63 → (fun k : Fin 64 => k0_pay10 (F := Ideal) x (ix2 r (⟨128 * k.val + l.val, by have := k.isLt; have := l.isLt; omega⟩ : Fin 8192))) k ≤ b) ↔ ∀ k : Fin 64, (fun k : Fin 64 => k0_pay10 (F := Ideal) x (ix2 r (⟨128 * k.val + l.val, by have := k.isLt; have := l.isLt; omega⟩ : Fin 8192))) k ≤ b :=
    ⟨fun H k => H k (by have := k.isLt; omega), fun H k _ => H k⟩
  refine Iff.trans ?_ e
  refine Cert.Prep.step _ b 62 (by omega) _ _ _ ?_ (Cert.Prep.slice _ _ _ r l ⟨63, by omega⟩ rfl)
  refine Cert.Prep.step _ b 61 (by omega) _ _ _ ?_ (Cert.Prep.slice _ _ _ r l ⟨62, by omega⟩ rfl)
  refine Cert.Prep.step _ b 60 (by omega) _ _ _ ?_ (Cert.Prep.slice _ _ _ r l ⟨61, by omega⟩ rfl)
  refine Cert.Prep.step _ b 59 (by omega) _ _ _ ?_ (Cert.Prep.slice _ _ _ r l ⟨60, by omega⟩ rfl)
  exact Cert.Prep.step (fun k : Fin 64 => k0_pay10 (F := Ideal) x (ix2 r (⟨128 * k.val + l.val, by have := k.isLt; have := l.isLt; omega⟩ : Fin 8192))) b 58 (by omega) _ _ _ (k0_pay13_le x r l b) (k0_pay14_eq x r l)

/-- A block's maxima by row modulo 8. -/
theorem pay10_le (x : FVec Ideal S128x8192 .bf16) (g : FVec Ideal S1x8192 .f32) (r : Fin 8) (j : Fin 8192) (b : EReal) :
    k0_pay10 (F := Ideal) (k0_pay9 (F := Ideal) x g) (ix2 r j) ≤ b
      ↔ ∀ q : Fin 16, Cert.Max.abs (k0_pay5 (F := Ideal) x g (ix2 (⟨q.val * 8 + r.val, by have := q.isLt; have := r.isLt; omega⟩ : Fin 128) j)) ≤ b := by
  unfold k0_pay10 k0_pay9
  generalize k0_pay5 (F := Ideal) x g = v
  pointwise []
  exact Cert.Max.fold_le _ _

/-- The scratch starts from zero. -/
theorem k0_pay8_apply (y : S8x128.Idx) : k0_pay8 (F := Ideal) y = 0 := by
  pointwise [k0_pay8]

/-- A block row's inverse root mean square. -/
theorem pay4_apply (x : FVec Ideal S128x8192 .bf16) (p : Fin 128) (f : Fin 8192 → EReal) (hx : ∀ k, x (ix2 p k) = f k) :
    k0_pay4 (F := Ideal) x (ix2 p (0 : Fin 1)) = inv f := by
  obtain rfl : (fun k => x (ix2 p k)) = f := funext hx
  pointwise [k0_pay4, k0_pay3, inv]

/-- A block's normed input. -/
theorem pay5_apply (x : FVec Ideal S128x8192 .bf16) (g : FVec Ideal S1x8192 .f32) (p : Fin 128) (j : Fin 8192) :
    k0_pay5 (F := Ideal) x g (ix2 p j) = x (ix2 p j) * k0_pay4 (F := Ideal) x (ix2 p (0 : Fin 1)) * g (ix2 (0 : Fin 1) j) := by
  unfold k0_pay5
  generalize k0_pay4 (F := Ideal) x = v
  pointwise [k0_pay3]

/-- One code of a block. -/
theorem pay6_apply (x : FVec Ideal S128x8192 .bf16) (g : FVec Ideal S1x8192 .f32) (s : EReal) (p : Fin 128) (j : Fin 8192) :
    k0_pay6 (F := Ideal) x g s (ix2 p j) = Cert.Prep.code 0xC3E00000#32 0x43E00000#32 (k0_pay5 (F := Ideal) x g (ix2 p j)) s := by
  unfold k0_pay6
  generalize k0_pay5 (F := Ideal) x g = v
  pointwise [Cert.Prep.code]

/-- One inverse root mean square of a block. -/
theorem pay7_apply (x : FVec Ideal S128x8192 .bf16) (p : Fin 128) (j : Fin 128) : k0_pay7 (F := Ideal) x (ix2 p j) = k0_pay4 (F := Ideal) x (ix2 p (0 : Fin 1)) := by
  unfold k0_pay7
  generalize k0_pay4 (F := Ideal) x = v
  pointwise []

variable (m : (ℓ : Loc nD τ sig) → Buf (Elt Ideal) ℓ) (c : Dev nD)

/-- The one place of a one-element block. -/
abbrev one : Rect S1x1 := Rect.unit (s := S1x1) ![0, 0] S1x1.size inb_S1x1_S1x1_0_0
/-- A one-element block has a first place. -/
theorem one_pos : 0 < one.shape.numel := numel1_S1x1.symm ▸ Nat.one_pos

/-- The scale. -/
abbrev sc (t : Fin cfg0.N) : Elt Ideal .f32 := View.ld (iblk m c 0 t) one (Shape.Idx.first one_pos)
theorem sc_eq (t : Fin cfg0.N) : sc m c t = (m ((c : Thread nD τ).loc main_arg2)) ix0 := by
  unfold sc
  pointwise []
  blk_point [iblk, V, idx t]

/-- The normed inputs of the program. -/
abbrev aXn : Fin 6144 → Fin 8192 → EReal := normed (m ((c : Thread nD τ).loc main_arg0)) (m ((c : Thread nD τ).loc main_arg1))

/-- A block of the input. -/
theorem x_apply (t : Fin cfg0.N) (p : Fin 128) (j : Fin 8192) (i : Fin 6144) (hi : i.val = 128 * t.val + p.val) :
    (iblk m c 1 t : FVec Ideal S128x8192 .bf16) (ix2 p j) = ((m ((c : Thread nD τ).loc main_arg0)) : FVec Ideal S6144x8192 .bf16) (ix2 i j) := by
  blk_point [iblk, V, idx t]
/-- The weights. -/
theorem g_apply (t : Fin cfg0.N) (j : Fin 8192) :
    (iblk m c 2 t : FVec Ideal S1x8192 .f32) (ix2 (0 : Fin 1) j) = ((m ((c : Thread nD τ).loc main_arg1)) : FVec Ideal S8192 .f32) (ix1 j) := by
  blk_point [iblk, V, idx t]

/-- A block's row's inverse root mean square is the whole row's. -/
theorem r_apply (t : Fin cfg0.N) (p : Fin 128) (i : Fin 6144) (hi : i.val = 128 * t.val + p.val) :
    k0_pay4 (F := Ideal) (iblk m c 1 t) (ix2 p (0 : Fin 1)) = inv (fun k => ((m ((c : Thread nD τ).loc main_arg0)) : FVec Ideal S6144x8192 .bf16) (ix2 i k)) :=
  pay4_apply _ p _ fun k => x_apply m c t p k i hi

/-- A block of the normed inputs. -/
theorem xn_apply (t : Fin cfg0.N) (p : Fin 128) (j : Fin 8192) (i : Fin 6144) (hi : i.val = 128 * t.val + p.val) :
    k0_pay5 (F := Ideal) (iblk m c 1 t) (iblk m c 2 t) (ix2 p j) = aXn m c i j := by
  refine (pay5_apply _ _ p j).trans ?_
  exact congrArg₂ (· * ·) (congrArg₂ (· * ·) (x_apply m c t p j i hi) (r_apply m c t p i hi)) (g_apply m c t j)

/-- The update of the scratch at a point. -/
abbrev upd (t : Fin cfg0.N) (p : FVec Ideal S8x128 .f32) : FVec Ideal S8x128 .f32 :=
  k0_pay1 (F := Ideal) p (k0_pay10 (F := Ideal) (k0_pay9 (F := Ideal) (iblk m c 1 t) (iblk m c 2 t))) (k0_pay13 (F := Ideal) (k0_pay10 (F := Ideal) (k0_pay9 (F := Ideal) (iblk m c 1 t) (iblk m c 2 t))) (k0_pay11 (F := Ideal) (k0_pay9 (F := Ideal) (iblk m c 1 t) (iblk m c 2 t))) (k0_pay12 (F := Ideal) (k0_pay9 (F := Ideal) (iblk m c 1 t) (iblk m c 2 t)))) (k0_pay14 (F := Ideal) (k0_pay10 (F := Ideal) (k0_pay9 (F := Ideal) (iblk m c 1 t) (iblk m c 2 t))))

/-- One update of the scratch, in the whole matrix's rows and columns. -/
theorem step_le (t : Fin cfg0.N) (p : FVec Ideal S8x128 .f32) (r : Fin 8) (l : Fin 128) (b : EReal) :
    upd m c t p (ix2 r l) ≤ b
      ↔ p (ix2 r l) ≤ b ∧ ∀ (i : Fin 6144) (j : Fin 8192), 16 * t.val ≤ i.val / 8 → i.val / 8 < 16 * t.val + 16 → i.val % 8 = r.val → j.val % 128 = l.val
        → Cert.Max.abs (aXn m c i j) ≤ b := by
  have hN := lt t
  refine (upd_le _ p r l b).trans (and_congr_right' ((forall_congr' fun k => pay10_le _ _ r _ b).trans ?_))
  refine Cert.Prep.blk_le 16 (16 * t.val) (by omega) _ _ r.val l.val r.isLt l.isLt (fun k g i j hi hj => ?_) b
  have ej : j = (⟨128 * k.val + l.val, by have := k.isLt; have := l.isLt; omega⟩ : Fin 8192) := Fin.ext hj
  refine (xn_apply m c t _ _ i ?_).trans (congrArg (aXn m c i) ej.symm)
  exact (by show i.val = 128 * t.val + (g.val * 8 + r.val); omega)

/-- What the scratch holds after point `n`. -/
abbrev sm (n : ℕ) (h : n < cfg0.N) : FVec Ideal S8x128 .f32 := (outsAt0 m c n h).2.2.2

/-- The scratch after the first point. -/
theorem sm_reset (t : Fin cfg0.N) (h0 : t.val % 48 = 0) : sm m c t.val t.isLt = upd m c t (k0_pay8 (F := Ideal)) := by
  have hN := lt t
  have h1 : ¬t.val % 48 = 47 := by omega
  show (outsAt0 m c t.val t.isLt).2.2.2 = _
  rw [outsAt0_A m c t h0 h1]; funext y; frame_out

/-- The scratch after every later point, from what the point before left. -/
theorem sm_step (t : Fin cfg0.N) (h0 : ¬t.val % 48 = 0) :
    sm m c t.val t.isLt = upd m c t (sm m c (t.val - 1) (Nat.lt_of_le_of_lt (Nat.sub_le _ _) t.isLt)) := by
  have hN := lt t
  show (outsAt0 m c t.val t.isLt).2.2.2 = _
  by_cases h1 : t.val % 48 = 47
  · rw [outsAt0_C m c t h0 h1]; funext y; frame_out; rw [read_unread_whole]
  · rw [outsAt0_B m c t h0 h1]; funext y; frame_out; rw [read_unread_whole]

/-- The amax after the last point is the maximum of the scratch. -/
theorem out_amax (t : Fin cfg0.N) (h1 : t.val % 48 = 47) : (outsAt0 m c t.val t.isLt).2.2.1 = fun _ => k0_pay2 (F := Ideal) (sm m c t.val t.isLt) := by
  rw [sm_step m c t (by omega), outsAt0_C m c t (by omega) h1]; funext y; frame_out; rw [read_unread_whole]

/-- What bounds the scratch after every point: zero and the absolute values of the rows seen so far. -/
theorem sm_le : ∀ (n : ℕ) (hn : n < cfg0.N) (r : Fin 8) (l : Fin 128) (b : EReal), sm m c n hn (ix2 r l) ≤ b ↔ 0 ≤ b
    ∧ ∀ (i : Fin 6144) (j : Fin 8192), i.val / 8 < 16 * n + 16 → i.val % 8 = r.val → j.val % 128 = l.val → Cert.Max.abs ((aXn m c) i j) ≤ b := by
  intro n
  induction n with
  | zero =>
    intro hn r l b
    rw [show sm m c 0 hn = _ from sm_reset m c ⟨0, hn⟩ rfl, step_le, k0_pay8_apply]
    exact and_congr_right' (forall_congr' fun i => forall_congr' fun j => by simp)
  | succ n ih =>
    intro hn r l b
    have hN := lt ⟨n + 1, hn⟩
    simp only at hN
    rw [show sm m c (n + 1) hn = _ from sm_step m c ⟨n + 1, hn⟩ (by simp only; omega), step_le]
    have ih' := ih (Nat.lt_of_succ_lt hn) r l b
    rw [show sm m c ((⟨n + 1, hn⟩ : Fin cfg0.N).val - 1) _ (ix2 r l) = sm m c n (Nat.lt_of_succ_lt hn) (ix2 r l) from rfl, ih', and_assoc]
    refine and_congr_right' ⟨?_, ?_⟩
    · rintro ⟨h1, h2⟩ i j hi h8 hj
      by_cases hc : i.val / 8 < 16 * n + 16
      · exact h1 i j hc h8 hj
      · exact h2 i j (by simp only; omega) (by simp only; omega) h8 hj
    · intro H
      exact ⟨fun i j hi h8 hj => H i j (by omega) h8 hj, fun i j hi hi' h8 hj => H i j (by simp only at hi'; omega) h8 hj⟩

/-- The last point's maximum of the scratch is the largest absolute value. -/
theorem amax_eq (t : Fin cfg0.N) (ht : t.val % 48 = 47) : k0_pay2 (F := Ideal) (sm m c t.val t.isLt) = Cert.Max.amax (aXn m c) := by
  have hN := lt t
  refine Cert.Prep.amax_of _ (fun r l => sm m c t.val t.isLt (ix2 r l)) (fun r l b => ?_) _ fun b => ?_
  · refine (sm_le m c t.val t.isLt r l b).trans (and_congr_right' (forall_congr' fun i => forall_congr' fun j => ?_))
    have hi := i.isLt
    exact ⟨fun H => H (by omega), fun H _ => H⟩
  · generalize sm m c t.val t.isLt = s
    pointwise [k0_pay2]
    exact (Cert.Max.fold_le _ _).trans Prod.forall

/-- The block of codes at every point. -/
theorem out3 (t : Fin cfg0.N) : (outsAt0 m c t.val t.isLt).1 = k0_pay6 (F := Ideal) (iblk m c 1 t) (iblk m c 2 t) (sc m c t) := by
  have hN := lt t
  by_cases h0 : t.val % 48 = 0 <;> by_cases h1 : t.val % 48 = 47
  all_goals first
    | (exfalso; omega)
    | (rw [outsAt0_A m c t h0 h1]; funext y; frame_out; done)
    | (rw [outsAt0_B m c t h0 h1]; funext y; frame_out; done)
    | (rw [outsAt0_C m c t h0 h1]; funext y; frame_out; done)

/-- The block of inverse root mean squares at every point. -/
theorem out4 (t : Fin cfg0.N) : (outsAt0 m c t.val t.isLt).2.1 = k0_pay7 (F := Ideal) (iblk m c 1 t) := by
  have hN := lt t
  by_cases h0 : t.val % 48 = 0 <;> by_cases h1 : t.val % 48 = 47
  all_goals first
    | (exfalso; omega)
    | (rw [outsAt0_A m c t h0 h1]; funext y; frame_out; done)
    | (rw [outsAt0_B m c t h0 h1]; funext y; frame_out; done)
    | (rw [outsAt0_C m c t h0 h1]; funext y; frame_out; done)

/-- The codes the kernel leaves. -/
theorem final3 : (dats m 0 c).arrAt 3 (cfgs 0).N
    = codes (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out3]
  have hN := lt t
  obtain ⟨p, j, rfl⟩ : ∃ (p : Fin 128) (j : Fin 8192), y = ix2 p j := ⟨y 0, y 1, by funext a; match a with | ⟨0, _⟩ => rfl | ⟨1, _⟩ => rfl⟩
  have hp := p.isLt
  refine (pay6_apply _ _ _ p j).trans ?_
  refine (congrArg₂ (Cert.Prep.code _ _) (xn_apply m c t p j ⟨128 * t.val + p.val, by omega⟩ rfl) (sc_eq m c t)).trans ?_
  refine codes_at _ _ _ _ _ _ ?_ ?_
  · blk_simp [idx t]
    show _ = 128 * t.val + p.val
    omega
  · blk_simp [idx t]

/-- The inverse root mean squares the kernel leaves. -/
theorem final4 : (dats m 0 c).arrAt 4 (cfgs 0).N = invs (m ((c : Thread nD τ).loc main_arg0)) := by
  refine (dats m 0 c).arrAt_eq_of_covers 4 _ (by decide +kernel) fun t hf y => ?_
  blk_simp
  rw [after0_4, out4]
  have hN := lt t
  obtain ⟨p, j, rfl⟩ : ∃ (p : Fin 128) (j : Fin 128), y = ix2 p j := ⟨y 0, y 1, by funext a; match a with | ⟨0, _⟩ => rfl | ⟨1, _⟩ => rfl⟩
  have hp := p.isLt
  refine (pay7_apply _ p j).trans ?_
  refine (r_apply m c t p ⟨128 * t.val + p.val, by omega⟩ rfl).trans ?_
  refine invs_at _ _ _ ?_
  blk_simp [idx t]
  show _ = 128 * t.val + p.val
  omega

/-- The amax is written back at the last point only. -/
theorem flush5 : ∀ t : Fin cfg0.N, (cfg0.win 5).flush t = true → t.val % 48 = 47 := (by decide +kernel : ∀ t : Fin grid0.N, _)

/-- The amax the kernel leaves. -/
theorem final5 : (dats m 0 c).arrAt 5 (cfgs 0).N
    = (fun _ => Cert.Max.amax (normed (m ((c : Thread nD τ).loc main_arg0)) (m ((c : Thread nD τ).loc main_arg1))) : FVec Ideal S1x1 .f32) := by
  refine (dats m 0 c).arrAt_eq_of_covers 5 _ (by decide +kernel) fun t hf y => ?_
  blk_simp
  rw [after0_5, out_amax m c t (flush5 t hf)]
  exact amax_eq m c t (flush5 t hf)

end Cert.XPrepIdeal.Val

namespace Cert.XPrepRefIdeal.Val
open Cert.XPrepRefIdeal Cert.XPrepRefIdeal.Gen
open Cert.XPrepIdeal.Val (inv normed codes codes_at invs invs_at)

/-- The reference's one grid point sees whole arrays. -/
theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] :=
  (by decide +kernel : ∀ t : Fin grid0.N, _)

/-- A row's inverse root mean square. -/
theorem pay2_apply (x : FVec Ideal S6144x8192 .bf16) (i : Fin 6144) (f : Fin 8192 → EReal) (hx : ∀ k, x (ix2 i k) = f k) :
    k0_pay2 (F := Ideal) x (ix2 i (0 : Fin 1)) = inv f := by
  obtain rfl : (fun k => x (ix2 i k)) = f := funext hx
  pointwise [k0_pay2, k0_pay1, Cert.XPrepIdeal.Val.inv]

/-- A normed input. -/
theorem pay3_apply (x : FVec Ideal S6144x8192 .bf16) (g : FVec Ideal S1x8192 .f32) (i : Fin 6144) (j : Fin 8192) :
    k0_pay3 (F := Ideal) x g (ix2 i j) = x (ix2 i j) * k0_pay2 (F := Ideal) x (ix2 i (0 : Fin 1)) * g (ix2 (0 : Fin 1) j) := by
  unfold k0_pay3
  generalize k0_pay2 (F := Ideal) x = v
  pointwise [k0_pay1]

/-- A code. -/
theorem pay4_apply (x : FVec Ideal S6144x8192 .bf16) (g : FVec Ideal S1x8192 .f32) (s : FVec Ideal S1x1 .f32) (i : Fin 6144) (j : Fin 8192) :
    k0_pay4 (F := Ideal) x g s (ix2 i j) = Cert.Prep.code 0xC3E00000#32 0x43E00000#32 (k0_pay3 (F := Ideal) x g (ix2 i j)) (s (ix2 (0 : Fin 1) (0 : Fin 1))) := by
  unfold k0_pay4
  generalize k0_pay3 (F := Ideal) x g = v
  pointwise [Cert.Prep.code]

/-- An inverse root mean square in its 128 columns. -/
theorem pay5_apply (x : FVec Ideal S6144x8192 .bf16) (i : Fin 6144) (j : Fin 128) : k0_pay5 (F := Ideal) x (ix2 i j) = k0_pay2 (F := Ideal) x (ix2 i (0 : Fin 1)) := by
  unfold k0_pay5
  generalize k0_pay2 (F := Ideal) x = v
  pointwise []

/-- The largest absolute normed input. -/
theorem pay6_apply (x : FVec Ideal S6144x8192 .bf16) (g : FVec Ideal S1x8192 .f32) (f : Fin 6144 → Fin 8192 → EReal)
    (hx : ∀ i j, k0_pay3 (F := Ideal) x g (ix2 i j) = f i j) (y : S1x1.Idx) : k0_pay6 (F := Ideal) x g y = Cert.Max.amax f := by
  revert hx
  unfold k0_pay6
  generalize k0_pay3 (F := Ideal) x g = v
  intro hx
  pointwise []
  refine Cert.Max.eq_of_le_iff fun b => ?_
  rw [Cert.Max.fold_le, Cert.Max.amax_le]
  exact ⟨fun h i j => by rw [← hx]; exact h (i, j), fun h z => by have := h z.1 z.2; rw [← hx] at this; exact this⟩

variable (m : (ℓ : Loc nD τ sig) → Buf (Elt Ideal) ℓ) (c : Dev nD)

/-- The input. -/
theorem x_apply (t : Fin cfg0.N) (i : Fin 6144) (j : Fin 8192) :
    (iblk m c 0 t : FVec Ideal S6144x8192 .bf16) (ix2 i j) = ((m ((c : Thread nD τ).loc main_arg0)) : FVec Ideal S6144x8192 .bf16) (ix2 i j) := by
  blk_point [iblk, V, idx t]
/-- The weights. -/
theorem g_apply (t : Fin cfg0.N) (j : Fin 8192) :
    (iblk m c 1 t : FVec Ideal S1x8192 .f32) (ix2 (0 : Fin 1) j) = ((m ((c : Thread nD τ).loc main_arg1)) : FVec Ideal S8192 .f32) (ix1 j) := by
  blk_point [iblk, V, idx t]
/-- The scale. -/
theorem s_apply (t : Fin cfg0.N) :
    (iblk m c 2 t : FVec Ideal S1x1 .f32) (ix2 (0 : Fin 1) (0 : Fin 1)) = ((m ((c : Thread nD τ).loc main_arg2)) : FVec Ideal S_ .f32) ix0 := by
  blk_point [iblk, V, idx t]

/-- The rows' inverse root mean squares. -/
theorem r_apply (t : Fin cfg0.N) (i : Fin 6144) :
    k0_pay2 (F := Ideal) (iblk m c 0 t) (ix2 i (0 : Fin 1)) = inv (fun k => ((m ((c : Thread nD τ).loc main_arg0)) : FVec Ideal S6144x8192 .bf16) (ix2 i k)) :=
  pay2_apply _ i _ fun k => x_apply m c t i k

/-- The normed inputs. -/
theorem xn_apply (t : Fin cfg0.N) (i : Fin 6144) (j : Fin 8192) :
    k0_pay3 (F := Ideal) (iblk m c 0 t) (iblk m c 1 t) (ix2 i j) = normed (m ((c : Thread nD τ).loc main_arg0)) (m ((c : Thread nD τ).loc main_arg1)) i j := by
  refine (pay3_apply _ _ i j).trans ?_
  exact congrArg₂ (· * ·) (congrArg₂ (· * ·) (x_apply m c t i j) (r_apply m c t i)) (g_apply m c t j)

/-- The codes the reference leaves. -/
theorem final3 : (dats m 0 c).arrAt 3 (cfgs 0).N
    = codes (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  frame_out
  obtain ⟨i, j, rfl⟩ : ∃ (i : Fin 6144) (j : Fin 8192), y = ix2 i j := ⟨y 0, y 1, by funext a; match a with | ⟨0, _⟩ => rfl | ⟨1, _⟩ => rfl⟩
  refine (pay4_apply _ _ _ i j).trans ?_
  refine (congrArg₂ (Cert.Prep.code _ _) (xn_apply m c t i j) (s_apply m c t)).trans ?_
  refine codes_at _ _ _ _ _ _ ?_ ?_
  · blk_simp [idx t]
  · blk_simp [idx t]

/-- The inverse root mean squares the reference leaves. -/
theorem final4 : (dats m 0 c).arrAt 4 (cfgs 0).N = invs (m ((c : Thread nD τ).loc main_arg0)) := by
  refine (dats m 0 c).arrAt_eq_of_covers 4 _ (by decide +kernel) fun t hf y => ?_
  blk_simp
  rw [after0_4]
  frame_out
  obtain ⟨i, j, rfl⟩ : ∃ (i : Fin 6144) (j : Fin 128), y = ix2 i j := ⟨y 0, y 1, by funext a; match a with | ⟨0, _⟩ => rfl | ⟨1, _⟩ => rfl⟩
  refine (pay5_apply _ i j).trans ?_
  refine (r_apply m c t i).trans ?_
  refine invs_at _ _ _ ?_
  blk_simp [idx t]

/-- The amax the reference leaves. -/
theorem final5 : (dats m 0 c).arrAt 5 (cfgs 0).N
    = (fun _ => Cert.Max.amax (normed (m ((c : Thread nD τ).loc main_arg0)) (m ((c : Thread nD τ).loc main_arg1))) : FVec Ideal S1x1 .f32) := by
  refine (dats m 0 c).arrAt_eq_of_covers 5 _ (by decide +kernel) fun t hf y => ?_
  blk_simp
  rw [after0_5]
  frame_out
  exact pay6_apply _ _ _ (fun i j => xn_apply m c t i j) y

end Cert.XPrepRefIdeal.Val

namespace Cert.Proof

/-- Over the reals the kernel and the reference return the same codes of the normed inputs, the same inverse root mean squares
    and the same largest absolute value. -/
theorem algebraic_XPrep : algebraic_XPrepIdeal_XPrepRefIdeal := by
  pair_intro
  · run_from Cert.XPrepIdeal.Value.run_blocks m g
  · run_from Cert.XPrepRefIdeal.Value.run_blocks m' g'
    · obtain ⟨h0, h1, h2⟩ := hagree c
      rw [Cert.XPrepIdeal.Val.final3 m c]
      refine (Cert.XPrepRefIdeal.Val.final3 m' c).trans ?_
      rw [h0, h1, h2]
    · obtain ⟨h0, h1, h2⟩ := hagree c
      rw [Cert.XPrepIdeal.Val.final4 m c]
      refine (Cert.XPrepRefIdeal.Val.final4 m' c).trans ?_
      rw [h0]
    · obtain ⟨h0, h1, h2⟩ := hagree c
      rw [Cert.XPrepIdeal.Val.final5 m c]
      refine (Cert.XPrepRefIdeal.Val.final5 m' c).trans ?_
      rw [h0, h1]

end Cert.Proof
end
-- ==== Proof.DyPrepValue.lean ====
module

public import proofs.«01_k».proof.Defs
public import proofs.«01_k».proof.Proof.Gen.DyPrepIdeal.Value
public import proofs.«01_k».proof.Proof.Gen.DyPrepRefIdeal.Value
public import proofs.«01_k».proof.Proof.PrepMax
public import Idealize.ShloMosaic.Lib.Pipeline.ReadBack
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.DyPrepIdeal.Val
open Cert.DyPrepIdeal Cert.DyPrepIdeal.Gen

/-- The gradient's entries. -/
def entry (dy : FVec Ideal S6144x8192 .bf16) (i : Fin 6144) (j : Fin 8192) : EReal := dy (ix2 i j)

/-- The gradient's codes at one scale. -/
def codes (dy : FVec Ideal S6144x8192 .bf16) (s : FVec Ideal S_ .f32) : FVec Ideal S6144x8192 .fp8e5m2 :=
  fun y => Cert.Prep.code 0xC7600000#32 0x47600000#32 (dy y) (s ix0)

/-- Which block of its array each window shows at each grid point. -/
theorem idx : ∀ t : Fin cfg0.N, win0_0.index t = ![0, 0] ∧ win0_1.index t = ![t.val, 0] ∧ win0_2.index t = ![t.val, 0] ∧ win0_3.index t = ![0, 0] :=
  (by decide +kernel : ∀ t : Fin grid0.N, _)

/-- There are 24 grid points. -/
theorem lt (t : Fin cfg0.N) : t.val < 24 := lt_of_lt_of_eq t.isLt (show cfg0.N = 24 from N_0)

/-- What bounds the maximum of the first 13 groups of 128 columns. -/
theorem k0_pay7_le (x : FVec Ideal S256x8192 .bf16) (r : Fin 8) (l : Fin 128) (b : EReal) : k0_pay7 (F := Ideal) x (ix2 r l) ≤ b
    ↔ ∀ k : Fin 64, k.val ≤ 12 → (fun k : Fin 64 => k0_pay6 (F := Ideal) x (ix2 r (⟨128 * k.val + l.val, by have := k.isLt; have := l.isLt; omega⟩ : Fin 8192))) k ≤ b := by
  unfold k0_pay7
  try dsimp only
  refine Cert.Prep.step _ b 11 (by omega) _ _ _ ?_ (Cert.Prep.slice _ _ _ r l ⟨12, by omega⟩ rfl)
  refine Cert.Prep.step _ b 10 (by omega) _ _ _ ?_ (Cert.Prep.slice _ _ _ r l ⟨11, by omega⟩ rfl)
  refine Cert.Prep.step _ b 9 (by omega) _ _ _ ?_ (Cert.Prep.slice _ _ _ r l ⟨10, by omega⟩ rfl)
  refine Cert.Prep.step _ b 8 (by omega) _ _ _ ?_ (Cert.Prep.slice _ _ _ r l ⟨9, by omega⟩ rfl)
  refine Cert.Prep.step _ b 7 (by omega) _ _ _ ?_ (Cert.Prep.slice _ _ _ r l ⟨8, by omega⟩ rfl)
  refine Cert.Prep.step _ b 6 (by omega) _ _ _ ?_ (Cert.Prep.slice _ _ _ r l ⟨7, by omega⟩ rfl)
  refine Cert.Prep.step _ b 5 (by omega) _ _ _ ?_ (Cert.Prep.slice _ _ _ r l ⟨6, by omega⟩ rfl)
  refine Cert.Prep.step _ b 4 (by omega) _ _ _ ?_ (Cert.Prep.slice _ _ _ r l ⟨5, by omega⟩ rfl)
  refine Cert.Prep.step _ b 3 (by omega) _ _ _ ?_ (Cert.Prep.slice _ _ _ r l ⟨4, by omega⟩ rfl)
  refine Cert.Prep.step _ b 2 (by omega) _ _ _ ?_ (Cert.Prep.slice _ _ _ r l ⟨3, by omega⟩ rfl)
  refine Cert.Prep.step _ b 1 (by omega) _ _ _ ?_ (Cert.Prep.slice _ _ _ r l ⟨2, by omega⟩ rfl)
  refine Cert.Prep.step _ b 0 (by omega) _ _ _ ?_ (Cert.Prep.slice _ _ _ r l ⟨1, by omega⟩ rfl)
  exact Cert.Prep.first (fun k : Fin 64 => k0_pay6 (F := Ideal) x (ix2 r (⟨128 * k.val + l.val, by have := k.isLt; have := l.isLt; omega⟩ : Fin 8192))) b _ _ (Cert.Prep.slice _ _ _ r l 0 rfl)

/-- The next group of 128 columns. -/
theorem k0_pay8_eq (x : FVec Ideal S256x8192 .bf16) (r : Fin 8) (l : Fin 128) : k0_pay8 (F := Ideal) x (ix2 r l) = (fun k : Fin 64 => k0_pay6 (F := Ideal) x (ix2 r (⟨128 * k.val + l.val, by have := k.isLt; have := l.isLt; omega⟩ : Fin 8192))) ⟨13, by omega⟩ := by
  unfold k0_pay8
  exact Cert.Prep.slice _ _ _ r l ⟨13, by omega⟩ rfl

/-- The next group of 128 columns. -/
theorem k0_pay10_eq (x : FVec Ideal S256x8192 .bf16) (r : Fin 8) (l : Fin 128) : k0_pay10 (F := Ideal) (k0_pay6 (F := Ideal) x) (ix2 r l) = (fun k : Fin 64 => k0_pay6 (F := Ideal) x (ix2 r (⟨128 * k.val + l.val, by have := k.isLt; have := l.isLt; omega⟩ : Fin 8192))) ⟨43, by omega⟩ := by
  unfold k0_pay10
  exact Cert.Prep.slice _ _ _ r l ⟨43, by omega⟩ rfl

/-- What bounds the maximum of the first 43 groups. -/
theorem k0_pay9_le (x : FVec Ideal S256x8192 .bf16) (r : Fin 8) (l : Fin 128) (b : EReal) : k0_pay9 (F := Ideal) (k0_pay6 (F := Ideal) x) (k0_pay7 (F := Ideal) x) (k0_pay8 (F := Ideal) x) (ix2 r l) ≤ b
    ↔ ∀ k : Fin 64, k.val ≤ 42 → (fun k : Fin 64 => k0_pay6 (F := Ideal) x (ix2 r (⟨128 * k.val + l.val, by have := k.isLt; have := l.isLt; omega⟩ : Fin 8192))) k ≤ b := by
  unfold k0_pay9
  try dsimp only
  refine Cert.Prep.step _ b 41 (by omega) _ _ _ ?_ (Cert.Prep.slice _ _ _ r l ⟨42, by omega⟩ rfl)
  refine Cert.Prep.step _ b 40 (by omega) _ _ _ ?_ (Cert.Prep.slice _ _ _ r l ⟨41, by omega⟩ rfl)
  refine Cert.Prep.step _ b 39 (by omega) _ _ _ ?_ (Cert.Prep.slice _ _ _ r l ⟨40, by omega⟩ rfl)
  refine Cert.Prep.step _ b 38 (by omega) _ _ _ ?_ (Cert.Prep.slice _ _ _ r l ⟨39, by omega⟩ rfl)
  refine Cert.Prep.step _ b 37 (by omega) _ _ _ ?_ (Cert.Prep.slice _ _ _ r l ⟨38, by omega⟩ rfl)
  refine Cert.Prep.step _ b 36 (by omega) _ _ _ ?_ (Cert.Prep.slice _ _ _ r l ⟨37, by omega⟩ rfl)
  refine Cert.Prep.step _ b 35 (by omega) _ _ _ ?_ (Cert.Prep.slice _ _ _ r l ⟨36, by omega⟩ rfl)
  refine Cert.Prep.step _ b 34 (by omega) _ _ _ ?_ (Cert.Prep.slice _ _ _ r l ⟨35, by omega⟩ rfl)
  refine Cert.Prep.step _ b 33 (by omega) _ _ _ ?_ (Cert.Prep.slice _ _ _ r l ⟨34, by omega⟩ rfl)
  refine Cert.Prep.step _ b 32 (by omega) _ _ _ ?_ (Cert.Prep.slice _ _ _ r l ⟨33, by omega⟩ rfl)
  refine Cert.Prep.step _ b 31 (by omega) _ _ _ ?_ (Cert.Prep.slice _ _ _ r l ⟨32, by omega⟩ rfl)
  refine Cert.Prep.step _ b 30 (by omega) _ _ _ ?_ (Cert.Prep.slice _ _ _ r l ⟨31, by omega⟩ rfl)
  refine Cert.Prep.step _ b 29 (by omega) _ _ _ ?_ (Cert.Prep.slice _ _ _ r l ⟨30, by omega⟩ rfl)
  refine Cert.Prep.step _ b 28 (by omega) _ _ _ ?_ (Cert.Prep.slice _ _ _ r l ⟨29, by omega⟩ rfl)
  refine Cert.Prep.step _ b 27 (by omega) _ _ _ ?_ (Cert.Prep.slice _ _ _ r l ⟨28, by omega⟩ rfl)
  refine Cert.Prep.step _ b 26 (by omega) _ _ _ ?_ (Cert.Prep.slice _ _ _ r l ⟨27, by omega⟩ rfl)
  refine Cert.Prep.step _ b 25 (by omega) _ _ _ ?_ (Cert.Prep.slice _ _ _ r l ⟨26, by omega⟩ rfl)
  refine Cert.Prep.step _ b 24 (by omega) _ _ _ ?_ (Cert.Prep.slice _ _ _ r l ⟨25, by omega⟩ rfl)
  refine Cert.Prep.step _ b 23 (by omega) _ _ _ ?_ (Cert.Prep.slice _ _ _ r l ⟨24, by omega⟩ rfl)
  refine Cert.Prep.step _ b 22 (by omega) _ _ _ ?_ (Cert.Prep.slice _ _ _ r l ⟨23, by omega⟩ rfl)
  refine Cert.Prep.step _ b 21 (by omega) _ _ _ ?_ (Cert.Prep.slice _ _ _ r l ⟨22, by omega⟩ rfl)
  refine Cert.Prep.step _ b 20 (by omega) _ _ _ ?_ (Cert.Prep.slice _ _ _ r l ⟨21, by omega⟩ rfl)
  refine Cert.Prep.step _ b 19 (by omega) _ _ _ ?_ (Cert.Prep.slice _ _ _ r l ⟨20, by omega⟩ rfl)
  refine Cert.Prep.step _ b 18 (by omega) _ _ _ ?_ (Cert.Prep.slice _ _ _ r l ⟨19, by omega⟩ rfl)
  refine Cert.Prep.step _ b 17 (by omega) _ _ _ ?_ (Cert.Prep.slice _ _ _ r l ⟨18, by omega⟩ rfl)
  refine Cert.Prep.step _ b 16 (by omega) _ _ _ ?_ (Cert.Prep.slice _ _ _ r l ⟨17, by omega⟩ rfl)
  refine Cert.Prep.step _ b 15 (by omega) _ _ _ ?_ (Cert.Prep.slice _ _ _ r l ⟨16, by omega⟩ rfl)
  refine Cert.Prep.step _ b 14 (by omega) _ _ _ ?_ (Cert.Prep.slice _ _ _ r l ⟨15, by omega⟩ rfl)
  refine Cert.Prep.step _ b 13 (by omega) _ _ _ ?_ (Cert.Prep.slice _ _ _ r l ⟨14, by omega⟩ rfl)
  exact Cert.Prep.step (fun k : Fin 64 => k0_pay6 (F := Ideal) x (ix2 r (⟨128 * k.val + l.val, by have := k.isLt; have := l.isLt; omega⟩ : Fin 8192))) b 12 (by omega) _ _ _ (k0_pay7_le x r l b) (k0_pay8_eq x r l)

/-- One update of the scratch. -/
theorem upd_le (x : FVec Ideal S256x8192 .bf16) (p : FVec Ideal S8x128 .f32) (r : Fin 8) (l : Fin 128) (b : EReal) :
    k0_pay1 (F := Ideal) p (k0_pay6 (F := Ideal) x) (k0_pay9 (F := Ideal) (k0_pay6 (F := Ideal) x) (k0_pay7 (F := Ideal) x) (k0_pay8 (F := Ideal) x)) (k0_pay10 (F := Ideal) (k0_pay6 (F := Ideal) x)) (ix2 r l) ≤ b
      ↔ p (ix2 r l) ≤ b ∧ ∀ k : Fin 64, k0_pay6 (F := Ideal) x (ix2 r (⟨128 * k.val + l.val, by have := k.isLt; have := l.isLt; omega⟩ : Fin 8192)) ≤ b := by
  unfold k0_pay1
  try dsimp only
  rw [shapeCast_id]
  refine max_le_iff.trans (and_congr_right' ?_)
  have e : (∀ k : Fin 64, k.val ≤ 63 → (fun k : Fin 64 => k0_pay6 (F := Ideal) x (ix2 r (⟨128 * k.val + l.val, by have := k.isLt; have := l.isLt; omega⟩ : Fin 8192))) k ≤ b) ↔ ∀ k : Fin 64, (fun k : Fin 64 => k0_pay6 (F := Ideal) x (ix2 r (⟨128 * k.val + l.val, by have := k.isLt; have := l.isLt; omega⟩ : Fin 8192))) k ≤ b :=
    ⟨fun H k => H k (by have := k.isLt; omega), fun H k _ => H k⟩
  refine Iff.trans ?_ e
  refine Cert.Prep.step _ b 62 (by omega) _ _ _ ?_ (Cert.Prep.slice _ _ _ r l ⟨63, by omega⟩ rfl)
  refine Cert.Prep.step _ b 61 (by omega) _ _ _ ?_ (Cert.Prep.slice _ _ _ r l ⟨62, by omega⟩ rfl)
  refine Cert.Prep.step _ b 60 (by omega) _ _ _ ?_ (Cert.Prep.slice _ _ _ r l ⟨61, by omega⟩ rfl)
  refine Cert.Prep.step _ b 59 (by omega) _ _ _ ?_ (Cert.Prep.slice _ _ _ r l ⟨60, by omega⟩ rfl)
  refine Cert.Prep.step _ b 58 (by omega) _ _ _ ?_ (Cert.Prep.slice _ _ _ r l ⟨59, by omega⟩ rfl)
  refine Cert.Prep.step _ b 57 (by omega) _ _ _ ?_ (Cert.Prep.slice _ _ _ r l ⟨58, by omega⟩ rfl)
  refine Cert.Prep.step _ b 56 (by omega) _ _ _ ?_ (Cert.Prep.slice _ _ _ r l ⟨57, by omega⟩ rfl)
  refine Cert.Prep.step _ b 55 (by omega) _ _ _ ?_ (Cert.Prep.slice _ _ _ r l ⟨56, by omega⟩ rfl)
  refine Cert.Prep.step _ b 54 (by omega) _ _ _ ?_ (Cert.Prep.slice _ _ _ r l ⟨55, by omega⟩ rfl)
  refine Cert.Prep.step _ b 53 (by omega) _ _ _ ?_ (Cert.Prep.slice _ _ _ r l ⟨54, by omega⟩ rfl)
  refine Cert.Prep.step _ b 52 (by omega) _ _ _ ?_ (Cert.Prep.slice _ _ _ r l ⟨53, by omega⟩ rfl)
  refine Cert.Prep.step _ b 51 (by omega) _ _ _ ?_ (Cert.Prep.slice _ _ _ r l ⟨52, by omega⟩ rfl)
  refine Cert.Prep.step _ b 50 (by omega) _ _ _ ?_ (Cert.Prep.slice _ _ _ r l ⟨51, by omega⟩ rfl)
  refine Cert.Prep.step _ b 49 (by omega) _ _ _ ?_ (Cert.Prep.slice _ _ _ r l ⟨50, by omega⟩ rfl)
  refine Cert.Prep.step _ b 48 (by omega) _ _ _ ?_ (Cert.Prep.slice _ _ _ r l ⟨49, by omega⟩ rfl)
  refine Cert.Prep.step _ b 47 (by omega) _ _ _ ?_ (Cert.Prep.slice _ _ _ r l ⟨48, by omega⟩ rfl)
  refine Cert.Prep.step _ b 46 (by omega) _ _ _ ?_ (Cert.Prep.slice _ _ _ r l ⟨47, by omega⟩ rfl)
  refine Cert.Prep.step _ b 45 (by omega) _ _ _ ?_ (Cert.Prep.slice _ _ _ r l ⟨46, by omega⟩ rfl)
  refine Cert.Prep.step _ b 44 (by omega) _ _ _ ?_ (Cert.Prep.slice _ _ _ r l ⟨45, by omega⟩ rfl)
  refine Cert.Prep.step _ b 43 (by omega) _ _ _ ?_ (Cert.Prep.slice _ _ _ r l ⟨44, by omega⟩ rfl)
  exact Cert.Prep.step (fun k : Fin 64 => k0_pay6 (F := Ideal) x (ix2 r (⟨128 * k.val + l.val, by have := k.isLt; have := l.isLt; omega⟩ : Fin 8192))) b 42 (by omega) _ _ _ (k0_pay9_le x r l b) (k0_pay10_eq x r l)

/-- A block's maxima by row modulo 8. -/
theorem pay6_le (x : FVec Ideal S256x8192 .bf16) (r : Fin 8) (j : Fin 8192) (b : EReal) :
    k0_pay6 (F := Ideal) x (ix2 r j) ≤ b ↔ ∀ g : Fin 32, Cert.Max.abs (x (ix2 (⟨g.val * 8 + r.val, by have := g.isLt; have := r.isLt; omega⟩ : Fin 256) j)) ≤ b := by
  pointwise [k0_pay6, k0_pay3]
  exact Cert.Max.fold_le _ _

/-- The scratch starts from zero. -/
theorem k0_pay5_apply (y : S8x128.Idx) : k0_pay5 (F := Ideal) y = 0 := by
  pointwise [k0_pay5]

/-- One code of a block. -/
theorem pay4_apply (x : FVec Ideal S256x8192 .bf16) (s : EReal) (y : S256x8192.Idx) :
    k0_pay4 (F := Ideal) x s y = Cert.Prep.code 0xC7600000#32 0x47600000#32 (x y) s := by
  pointwise [k0_pay4, k0_pay3, Cert.Prep.code]

variable (m : (ℓ : Loc nD τ sig) → Buf (Elt Ideal) ℓ) (c : Dev nD)

/-- The one place of a one-element block. -/
abbrev one : Rect S1x1 := Rect.unit (s := S1x1) ![0, 0] S1x1.size inb_S1x1_S1x1_0_0
/-- A one-element block has a first place. -/
theorem one_pos : 0 < one.shape.numel := numel1_S1x1.symm ▸ Nat.one_pos

/-- The scale. -/
abbrev sc (t : Fin cfg0.N) : Elt Ideal .f32 := View.ld (iblk m c 0 t) one (Shape.Idx.first one_pos)
theorem sc_eq (t : Fin cfg0.N) : sc m c t = (m ((c : Thread nD τ).loc main_arg1)) ix0 := by
  unfold sc
  pointwise []
  blk_point [iblk, V, idx t]

/-- The gradient of the program. -/
abbrev aDy : Fin 6144 → Fin 8192 → EReal := entry (m ((c : Thread nD τ).loc main_arg0))

/-- A block of the gradient. -/
theorem x_apply (t : Fin cfg0.N) (y : S256x8192.Idx) (i : Fin 6144) (j : Fin 8192) (hi : i.val = 256 * t.val + (y 0).val) (hj : j.val = (y 1).val) :
    (iblk m c 1 t : FVec Ideal S256x8192 .bf16) y = aDy m c i j := by
  unfold aDy entry
  blk_point [iblk, V, idx t]

/-- One update of the scratch, in the whole matrix's rows and columns. -/
theorem step_le (t : Fin cfg0.N) (p : FVec Ideal S8x128 .f32) (r : Fin 8) (l : Fin 128) (b : EReal) :
    k0_pay1 (F := Ideal) p (k0_pay6 (F := Ideal) (iblk m c 1 t)) (k0_pay9 (F := Ideal) (k0_pay6 (F := Ideal) (iblk m c 1 t)) (k0_pay7 (F := Ideal) (iblk m c 1 t)) (k0_pay8 (F := Ideal) (iblk m c 1 t)))
      (k0_pay10 (F := Ideal) (k0_pay6 (F := Ideal) (iblk m c 1 t))) (ix2 r l) ≤ b
      ↔ p (ix2 r l) ≤ b ∧ ∀ (i : Fin 6144) (j : Fin 8192), 32 * t.val ≤ i.val / 8 → i.val / 8 < 32 * t.val + 32 → i.val % 8 = r.val → j.val % 128 = l.val
        → Cert.Max.abs (aDy m c i j) ≤ b := by
  have hN := lt t
  refine (upd_le _ p r l b).trans (and_congr_right' ((forall_congr' fun k => pay6_le _ r _ b).trans ?_))
  exact Cert.Prep.blk_le 32 (32 * t.val) (by omega) _ _ r.val l.val r.isLt l.isLt (fun k g i j hi hj => x_apply m c t _ i j (by simp only; show i.val = 256 * t.val + (g.val * 8 + r.val); omega) hj) b

/-- The update of the scratch at a point. -/
abbrev upd (t : Fin cfg0.N) (p : FVec Ideal S8x128 .f32) : FVec Ideal S8x128 .f32 :=
  k0_pay1 (F := Ideal) p (k0_pay6 (F := Ideal) (iblk m c 1 t)) (k0_pay9 (F := Ideal) (k0_pay6 (F := Ideal) (iblk m c 1 t)) (k0_pay7 (F := Ideal) (iblk m c 1 t)) (k0_pay8 (F := Ideal) (iblk m c 1 t)))
    (k0_pay10 (F := Ideal) (k0_pay6 (F := Ideal) (iblk m c 1 t)))

/-- What the scratch holds after point `n`. -/
abbrev sm (n : ℕ) (h : n < cfg0.N) : FVec Ideal S8x128 .f32 := (outsAt0 m c n h).2.2

/-- The scratch after the first point. -/
theorem sm_reset (t : Fin cfg0.N) (h0 : t.val % 24 = 0) : sm m c t.val t.isLt = upd m c t (k0_pay5 (F := Ideal)) := by
  have hN := lt t
  have h1 : ¬t.val % 24 = 23 := by omega
  show (outsAt0 m c t.val t.isLt).2.2 = _
  rw [outsAt0_A m c t h0 h1]; funext y; frame_out

/-- The scratch after every later point, from what the point before left. -/
theorem sm_step (t : Fin cfg0.N) (h0 : ¬t.val % 24 = 0) :
    sm m c t.val t.isLt = upd m c t (sm m c (t.val - 1) (Nat.lt_of_le_of_lt (Nat.sub_le _ _) t.isLt)) := by
  have hN := lt t
  show (outsAt0 m c t.val t.isLt).2.2 = _
  by_cases h1 : t.val % 24 = 23
  · rw [outsAt0_C m c t h0 h1]; funext y; frame_out; rw [read_unread_whole]
  · rw [outsAt0_B m c t h0 h1]; funext y; frame_out; rw [read_unread_whole]

/-- The amax after the last point is the maximum of the scratch. -/
theorem out_amax (t : Fin cfg0.N) (h1 : t.val % 24 = 23) : (outsAt0 m c t.val t.isLt).2.1 = fun _ => k0_pay2 (F := Ideal) (sm m c t.val t.isLt) := by
  rw [sm_step m c t (by omega), outsAt0_C m c t (by omega) h1]; funext y; frame_out; rw [read_unread_whole]

/-- What bounds the scratch after every point: zero and the absolute values of the rows seen so far. -/
theorem sm_le : ∀ (n : ℕ) (hn : n < cfg0.N) (r : Fin 8) (l : Fin 128) (b : EReal), sm m c n hn (ix2 r l) ≤ b ↔ 0 ≤ b
    ∧ ∀ (i : Fin 6144) (j : Fin 8192), i.val / 8 < 32 * n + 32 → i.val % 8 = r.val → j.val % 128 = l.val → Cert.Max.abs ((aDy m c) i j) ≤ b := by
  intro n
  induction n with
  | zero =>
    intro hn r l b
    rw [show sm m c 0 hn = _ from sm_reset m c ⟨0, hn⟩ rfl, step_le, k0_pay5_apply]
    exact and_congr_right' (forall_congr' fun i => forall_congr' fun j => by simp)
  | succ n ih =>
    intro hn r l b
    have hN := lt ⟨n + 1, hn⟩
    simp only at hN
    rw [show sm m c (n + 1) hn = _ from sm_step m c ⟨n + 1, hn⟩ (by simp only; omega), step_le]
    have ih' := ih (Nat.lt_of_succ_lt hn) r l b
    rw [show sm m c ((⟨n + 1, hn⟩ : Fin cfg0.N).val - 1) _ (ix2 r l) = sm m c n (Nat.lt_of_succ_lt hn) (ix2 r l) from rfl, ih', and_assoc]
    refine and_congr_right' ⟨?_, ?_⟩
    · rintro ⟨h1, h2⟩ i j hi h8 hj
      by_cases hc : i.val / 8 < 32 * n + 32
      · exact h1 i j hc h8 hj
      · exact h2 i j (by simp only; omega) (by simp only; omega) h8 hj
    · intro H
      exact ⟨fun i j hi h8 hj => H i j (by omega) h8 hj, fun i j hi hi' h8 hj => H i j (by simp only at hi'; omega) h8 hj⟩

/-- The last point's maximum of the scratch is the largest absolute value. -/
theorem amax_eq (t : Fin cfg0.N) (ht : t.val % 24 = 23) : k0_pay2 (F := Ideal) (sm m c t.val t.isLt) = Cert.Max.amax (aDy m c) := by
  have hN := lt t
  refine Cert.Prep.amax_of _ (fun r l => sm m c t.val t.isLt (ix2 r l)) (fun r l b => ?_) _ fun b => ?_
  · refine (sm_le m c t.val t.isLt r l b).trans (and_congr_right' (forall_congr' fun i => forall_congr' fun j => ?_))
    have hi := i.isLt
    exact ⟨fun H => H (by omega), fun H _ => H⟩
  · generalize sm m c t.val t.isLt = s
    pointwise [k0_pay2]
    exact (Cert.Max.fold_le _ _).trans Prod.forall

/-- The block of codes at every point. -/
theorem out2 (t : Fin cfg0.N) : (outsAt0 m c t.val t.isLt).1 = k0_pay4 (F := Ideal) (iblk m c 1 t) (sc m c t) := by
  have hN := lt t
  by_cases h0 : t.val % 24 = 0 <;> by_cases h1 : t.val % 24 = 23
  all_goals first
    | (exfalso; omega)
    | (rw [outsAt0_A m c t h0 h1]; funext y; frame_out; done)
    | (rw [outsAt0_B m c t h0 h1]; funext y; frame_out; done)
    | (rw [outsAt0_C m c t h0 h1]; funext y; frame_out; done)

/-- The codes the kernel leaves. -/
theorem final2 : (dats m 0 c).arrAt 2 (cfgs 0).N = codes (m ((c : Thread nD τ).loc main_arg0)) (m ((c : Thread nD τ).loc main_arg1)) := by
  refine (dats m 0 c).arrAt_eq_of_covers 2 _ (by decide +kernel) fun t hf y => ?_
  blk_simp
  rw [after0_2, out2]
  refine (pay4_apply _ _ y).trans ?_
  have hs := sc_eq m c t
  revert hs; generalize sc m c t = s; intro hs; subst hs
  blk_point [codes, iblk, V, idx t]

/-- The amax is written back at the last point only. -/
theorem flush3 : ∀ t : Fin cfg0.N, (cfg0.win 3).flush t = true → t.val % 24 = 23 := (by decide +kernel : ∀ t : Fin grid0.N, _)

/-- The amax the kernel leaves. -/
theorem final3 : (dats m 0 c).arrAt 3 (cfgs 0).N = (fun _ => Cert.Max.amax (entry (m ((c : Thread nD τ).loc main_arg0))) : FVec Ideal S1x1 .f32) := by
  refine (dats m 0 c).arrAt_eq_of_covers 3 _ (by decide +kernel) fun t hf y => ?_
  blk_simp
  rw [after0_3, out_amax m c t (flush3 t hf)]
  exact amax_eq m c t (flush3 t hf)

end Cert.DyPrepIdeal.Val

namespace Cert.DyPrepRefIdeal.Val
open Cert.DyPrepRefIdeal Cert.DyPrepRefIdeal.Gen

/-- The reference's one grid point sees whole arrays. -/
theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

variable (m : (ℓ : Loc nD τ sig) → Buf (Elt Ideal) ℓ) (c : Dev nD)

/-- The codes the reference leaves. -/
theorem final2 : (dats m 0 c).arrAt 2 (cfgs 0).N = Cert.DyPrepIdeal.Val.codes (m ((c : Thread nD τ).loc main_arg0)) (m ((c : Thread nD τ).loc main_arg1)) := by
  refine (dats m 0 c).arrAt_eq_of_covers 2 _ (by decide +kernel) fun t hf y => ?_
  blk_simp
  rw [after0_2]
  frame_out
  pointwise [k0_pay3, k0_pay1]
  blk_point [Cert.DyPrepIdeal.Val.codes, Cert.Prep.code, iblk, V, idx t]

/-- The largest absolute value of a matrix. -/
theorem pay2_apply (x : FVec Ideal S6144x8192 .bf16) (f : Fin 6144 → Fin 8192 → EReal) (hx : ∀ i j, x (ix2 i j) = f i j) (y : S1x1.Idx) :
    k0_pay2 (F := Ideal) x y = Cert.Max.amax f := by
  pointwise [k0_pay2, k0_pay1]
  refine Cert.Max.eq_of_le_iff fun b => ?_
  rw [Cert.Max.fold_le, Cert.Max.amax_le]
  exact ⟨fun h i j => by rw [← hx]; exact h (i, j), fun h z => by have := h z.1 z.2; rw [← hx] at this; exact this⟩

/-- The amax the reference leaves. -/
theorem final3 : (dats m 0 c).arrAt 3 (cfgs 0).N = (fun _ => Cert.Max.amax (Cert.DyPrepIdeal.Val.entry (m ((c : Thread nD τ).loc main_arg0))) : FVec Ideal S1x1 .f32) := by
  refine (dats m 0 c).arrAt_eq_of_covers 3 _ (by decide +kernel) fun t hf y => ?_
  blk_simp
  rw [after0_3]
  frame_out
  refine pay2_apply _ _ (fun i j => ?_) y
  unfold Cert.DyPrepIdeal.Val.entry
  blk_point [iblk, V, idx t]

end Cert.DyPrepRefIdeal.Val

namespace Cert.Proof

/-- Over the reals the kernel and the reference return the same codes of the gradient and the same largest absolute value. -/
theorem algebraic_DyPrep : algebraic_DyPrepIdeal_DyPrepRefIdeal := by
  pair_intro
  · run_from Cert.DyPrepIdeal.Value.run_blocks m g
  · run_from Cert.DyPrepRefIdeal.Value.run_blocks m' g'
    · obtain ⟨h0, h1⟩ := hagree c
      rw [Cert.DyPrepIdeal.Val.final2 m c]
      refine (Cert.DyPrepRefIdeal.Val.final2 m' c).trans ?_
      rw [h0, h1]
    · obtain ⟨h0, h1⟩ := hagree c
      rw [Cert.DyPrepIdeal.Val.final3 m c]
      refine (Cert.DyPrepRefIdeal.Val.final3 m' c).trans ?_
      rw [h0]

end Cert.Proof
end
-- ==== Proof.MidBlocks.lean ====
module

public import proofs.«01_k».proof.Proof.Gen.MidIdeal.Value
public import Idealize.ShloMosaic.Lib.Pipeline.ReadBack
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.MidIdeal.Val
open Cert.MidIdeal Cert.MidIdeal.Gen

/-- The product of the codes `x` and `w`, times two scales, at row `i` and column `j`. -/
def prod (x : FVec Ideal S6144x8192 .fp8e4m3) (w : FVec Ideal S8192x3584 .fp8e4m3) (a b : FVec Ideal S_ .f32)
    (i : Fin 6144) (j : Fin 3584) : EReal :=
  (∑ k : Fin 8192, x (ix2 i k) * w (ix2 k j)) * (a ix0 * b ix0)

/-- The hidden value from gate and up: `silu(g) * u`. -/
def hid (g u : EReal) : EReal := g * Ideal.logistic g * u

/-- The gradient of the gate from gate, up and the gradient `d` of the hidden value. -/
def dgate (g u d : EReal) : EReal := d * u * Ideal.logistic g * (1 + g * (1 - Ideal.logistic g))

/-- The gradient of up from gate and the gradient `d` of the hidden value. -/
def dup (g d : EReal) : EReal := d * g * Ideal.logistic g

/-- The hidden values `silu(x wg) * (x wu)`. -/
def H (x : FVec Ideal S6144x8192 .fp8e4m3) (wg wu : FVec Ideal S8192x3584 .fp8e4m3) (xs gs us : FVec Ideal S_ .f32)
    (i : Fin 6144) (j : Fin 3584) : EReal :=
  hid (prod x wg xs gs i j) (prod x wu xs us i j)

/-- The gradient of the hidden values: `dy w2ᵀ` times its scales, each column divided by its scale. -/
def DH (dy : FVec Ideal S6144x8192 .fp8e5m2) (w2 : FVec Ideal S3584x8192 .fp8e4m3) (cs : FVec Ideal S3584 .f32)
    (ds ws : FVec Ideal S_ .f32) (i : Fin 6144) (j : Fin 3584) : EReal :=
  Ideal.div ((∑ k : Fin 8192, dy (ix2 i k) * w2 (ix2 j k)) * (ds ix0 * ws ix0)) (cs (ix1 j))

/-- The codes of `v` at the scale `s`: the quotient clipped to `[-b, b]`. -/
def code (lo hi : BitVec 32) (v s : EReal) : EReal := min (Ideal.ofBits .f32 hi) (max (Ideal.ofBits .f32 lo) (Ideal.div v s))

/-- Which block of its array each window shows at each grid point. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![t.val % 12, 0] ∧ win0_6.index t = ![t.val % 12, 0]
    ∧ win0_7.index t = ![0, t.val / 12] ∧ win0_8.index t = ![0, t.val / 12] ∧ win0_9.index t = ![t.val / 12, 0]
    ∧ win0_10.index t = ![0, t.val / 12] ∧ win0_11.index t = ![t.val % 12, t.val / 12] ∧ win0_12.index t = ![t.val % 12, t.val / 12]
    ∧ win0_13.index t = ![t.val % 12, t.val / 12] ∧ win0_14.index t = ![0, t.val / 12] ∧ win0_15.index t = ![0, t.val / 12]
    ∧ win0_16.index t = ![0, 0] ∧ win0_17.index t = ![0, 0] :=
  (by decide +kernel : ∀ t : Fin grid0.N, _)

/-- There are 84 grid points. -/
theorem lt (t : Fin cfg0.N) : t.val < 84 := lt_of_lt_of_eq t.isLt (show cfg0.N = 84 from N_0)

variable (m : (ℓ : Loc nD τ sig) → Buf (Elt Ideal) ℓ) (c : Dev nD)

/-- The one place of a one-element block. -/
abbrev one : Rect S1x1 := Rect.unit (s := S1x1) ![0, 0] S1x1.size inb_S1x1_S1x1_0_0
/-- A one-element block has a first place. -/
theorem one_pos : 0 < one.shape.numel := numel1_S1x1.symm ▸ Nat.one_pos

/-- The one number in scalar window `w`'s block. -/
abbrev sc0 (t : Fin cfg0.N) : Elt Ideal .f32 := View.ld (iblk m c 0 t) one (Shape.Idx.first one_pos)
/-- The scale of up. -/
abbrev sc1 (t : Fin cfg0.N) : Elt Ideal .f32 := View.ld (iblk m c 1 t) one (Shape.Idx.first one_pos)
/-- The scale of the hidden gradient. -/
abbrev sc2 (t : Fin cfg0.N) : Elt Ideal .f32 := View.ld (iblk m c 2 t) one (Shape.Idx.first one_pos)
/-- The scale of the gate's codes. -/
abbrev sc3 (t : Fin cfg0.N) : Elt Ideal .f32 := View.ld (iblk m c 3 t) one (Shape.Idx.first one_pos)
/-- The scale of up's codes. -/
abbrev sc4 (t : Fin cfg0.N) : Elt Ideal .f32 := View.ld (iblk m c 4 t) one (Shape.Idx.first one_pos)

/-- The block of gates, of ups, of sigmoids, of hidden values and of hidden gradients at point `t`. -/
abbrev gB (t : Fin cfg0.N) : FVec Ideal S512x512 .f32 := k0_pay14 (F := Ideal) (iblk m c 5 t) (iblk m c 7 t) (sc0 m c t)
/-- The block of ups. -/
abbrev uB (t : Fin cfg0.N) : FVec Ideal S512x512 .f32 := k0_pay15 (F := Ideal) (iblk m c 5 t) (iblk m c 8 t) (sc1 m c t)
/-- The block of sigmoids. -/
abbrev sB (t : Fin cfg0.N) : FVec Ideal S512x512 .f32 := k0_pay17 (F := Ideal) (iblk m c 5 t) (iblk m c 7 t) (sc0 m c t)
/-- The block of hidden values. -/
abbrev hB (t : Fin cfg0.N) : FVec Ideal S512x512 .f32 :=
  k0_pay18 (F := Ideal) (iblk m c 5 t) (iblk m c 7 t) (sc0 m c t) (iblk m c 8 t) (sc1 m c t)
/-- The block of hidden gradients. -/
abbrev dB (t : Fin cfg0.N) : FVec Ideal S512x512 .f32 :=
  k0_pay20 (F := Ideal) (iblk m c 6 t) (iblk m c 9 t) (sc2 m c t) (iblk m c 10 t)

/-- What the column-maximum scratch holds after point `n`, and the two gradient-maximum scratches. -/
abbrev hm (n : ℕ) (h : n < cfg0.N) : FVec Ideal S8x512 .f32 := (outsAt0 m c n h).2.2.2.2.2.2.2.1
/-- What the gate-gradient maximum scratch holds after point `n`. -/
abbrev gm (n : ℕ) (h : n < cfg0.N) : FVec Ideal S8x128 .f32 := (outsAt0 m c n h).2.2.2.2.2.2.2.2.1
/-- What the up-gradient maximum scratch holds after point `n`. -/
abbrev um (n : ℕ) (h : n < cfg0.N) : FVec Ideal S8x128 .f32 := (outsAt0 m c n h).2.2.2.2.2.2.2.2.2

/-- The block of hidden codes at every point. -/
theorem out11 (t : Fin cfg0.N) :
    (outsAt0 m c t.val t.isLt).1 = k0_pay19 (F := Ideal) (iblk m c 5 t) (iblk m c 7 t) (sc0 m c t) (iblk m c 8 t) (sc1 m c t) (iblk m c 10 t) := by
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_A m c t h0 h1 h2 h3]; funext y; frame_out; done)
    | (rw [outsAt0_B m c t h0 h1 h2 h3]; funext y; frame_out; done)
    | (rw [outsAt0_C m c t h0 h1 h2 h3]; funext y; frame_out; done)
    | (rw [outsAt0_D m c t h0 h1 h2 h3]; funext y; frame_out; done)
    | (rw [outsAt0_E m c t h0 h1 h2 h3]; funext y; frame_out; done)

/-- The block of gate-gradient codes at every point. -/
theorem out12 (t : Fin cfg0.N) :
    (outsAt0 m c t.val t.isLt).2.1 = k0_pay23 (F := Ideal) (gB m c t) (uB m c t) (sB m c t) (dB m c t) (sc3 m c t) := by
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_A m c t h0 h1 h2 h3]; funext y; frame_out; done)
    | (rw [outsAt0_B m c t h0 h1 h2 h3]; funext y; frame_out; done)
    | (rw [outsAt0_C m c t h0 h1 h2 h3]; funext y; frame_out; done)
    | (rw [outsAt0_D m c t h0 h1 h2 h3]; funext y; frame_out; done)
    | (rw [outsAt0_E m c t h0 h1 h2 h3]; funext y; frame_out; done)

/-- The block of up-gradient codes at every point. -/
theorem out13 (t : Fin cfg0.N) :
    (outsAt0 m c t.val t.isLt).2.2.1 = k0_pay24 (F := Ideal) (gB m c t) (sB m c t) (dB m c t) (sc4 m c t) := by
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_A m c t h0 h1 h2 h3]; funext y; frame_out; done)
    | (rw [outsAt0_B m c t h0 h1 h2 h3]; funext y; frame_out; done)
    | (rw [outsAt0_C m c t h0 h1 h2 h3]; funext y; frame_out; done)
    | (rw [outsAt0_D m c t h0 h1 h2 h3]; funext y; frame_out; done)
    | (rw [outsAt0_E m c t h0 h1 h2 h3]; funext y; frame_out; done)

/-- At a column's first row block its maxima start from zero. -/
theorem hm_reset (t : Fin cfg0.N) (h : t.val % 12 = 0) :
    hm m c t.val t.isLt = k0_pay29 (F := Ideal) (k0_pay28 (F := Ideal) (hB m c t)) (k0_pay25 (F := Ideal)) := by
  unfold hm
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_A m c t h0 h1 h2 h3]; funext y; frame_out; done)
    | (rw [outsAt0_D m c t h0 h1 h2 h3]; funext y; frame_out; done)

/-- Elsewhere they go on from the point before. -/
theorem hm_step (t : Fin cfg0.N) (h : ¬ t.val % 12 = 0) :
    hm m c t.val t.isLt = k0_pay29 (F := Ideal) (k0_pay28 (F := Ideal) (hB m c t)) (hm m c (t.val - 1) (Nat.lt_of_le_of_lt (Nat.sub_le _ _) t.isLt)) := by
  unfold hm
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_B m c t h0 h1 h2 h3]; funext y; frame_out; rw [read_unread_whole]; done)
    | (rw [outsAt0_C m c t h0 h1 h2 h3]; funext y; frame_out; rw [read_unread_whole]; done)
    | (rw [outsAt0_E m c t h0 h1 h2 h3]; funext y; frame_out; rw [read_unread_whole]; done)

/-- The block of gate gradients. -/
abbrev dgB (t : Fin cfg0.N) : FVec Ideal S512x512 .f32 := k0_pay21 (F := Ideal) (gB m c t) (uB m c t) (sB m c t) (dB m c t)
/-- The block of up gradients. -/
abbrev duB (t : Fin cfg0.N) : FVec Ideal S512x512 .f32 := k0_pay22 (F := Ideal) (gB m c t) (sB m c t) (dB m c t)

/-- The gate-gradient maxima start from zero at the first point. -/
theorem gm_reset (t : Fin cfg0.N) (h : t.val % 84 = 0) :
    gm m c t.val t.isLt = k0_pay30 (F := Ideal) (dgB m c t) (k0_pay26 (F := Ideal)) := by
  unfold gm
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_A m c t h0 h1 h2 h3]; funext y; frame_out; done)

/-- Elsewhere they go on from the point before. -/
theorem gm_step (t : Fin cfg0.N) (h : ¬ t.val % 84 = 0) :
    gm m c t.val t.isLt = k0_pay30 (F := Ideal) (dgB m c t) (gm m c (t.val - 1) (Nat.lt_of_le_of_lt (Nat.sub_le _ _) t.isLt)) := by
  unfold gm
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_B m c t h0 h1 h2 h3]; funext y; frame_out; rw [read_unread_whole]; done)
    | (rw [outsAt0_C m c t h0 h1 h2 h3]; funext y; frame_out; rw [read_unread_whole]; done)
    | (rw [outsAt0_D m c t h0 h1 h2 h3]; funext y; frame_out; rw [read_unread_whole]; done)
    | (rw [outsAt0_E m c t h0 h1 h2 h3]; funext y; frame_out; rw [read_unread_whole]; done)

/-- The up-gradient maxima start from zero at the first point. -/
theorem um_reset (t : Fin cfg0.N) (h : t.val % 84 = 0) :
    um m c t.val t.isLt = k0_pay31 (F := Ideal) (duB m c t) (k0_pay27 (F := Ideal)) := by
  unfold um
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_A m c t h0 h1 h2 h3]; funext y; frame_out; done)

/-- Elsewhere they go on from the point before. -/
theorem um_step (t : Fin cfg0.N) (h : ¬ t.val % 84 = 0) :
    um m c t.val t.isLt = k0_pay31 (F := Ideal) (duB m c t) (um m c (t.val - 1) (Nat.lt_of_le_of_lt (Nat.sub_le _ _) t.isLt)) := by
  unfold um
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_B m c t h0 h1 h2 h3]; funext y; frame_out; rw [read_unread_whole]; done)
    | (rw [outsAt0_C m c t h0 h1 h2 h3]; funext y; frame_out; rw [read_unread_whole]; done)
    | (rw [outsAt0_D m c t h0 h1 h2 h3]; funext y; frame_out; rw [read_unread_whole]; done)
    | (rw [outsAt0_E m c t h0 h1 h2 h3]; funext y; frame_out; rw [read_unread_whole]; done)

/-- The row of column maxima, stored at a column's last row block. -/
theorem out14 (t : Fin cfg0.N) (h : t.val % 12 = 11) :
    (outsAt0 m c t.val t.isLt).2.2.2.1 = k0_pay3 (F := Ideal) (hm m c t.val t.isLt) := by
  rw [hm_step m c t (by omega)]
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_C m c t h0 h1 h2 h3]; funext y; frame_out; rw [read_unread_whole]; done)
    | (rw [outsAt0_E m c t h0 h1 h2 h3]; funext y; frame_out; rw [read_unread_whole]; done)

/-- The row of next column scales, stored with it. -/
theorem out15 (t : Fin cfg0.N) (h : t.val % 12 = 11) :
    (outsAt0 m c t.val t.isLt).2.2.2.2.1 = k0_pay13 (F := Ideal) (k0_pay3 (F := Ideal) (hm m c t.val t.isLt)) (k0_pay9 (F := Ideal) (hm m c t.val t.isLt)) (k0_pay10 (F := Ideal) (hm m c t.val t.isLt)) (k0_pay11 (F := Ideal) (hm m c t.val t.isLt)) (k0_pay12 (F := Ideal) (hm m c t.val t.isLt)) := by
  rw [hm_step m c t (by omega)]
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_C m c t h0 h1 h2 h3]; funext y; frame_out; rw [read_unread_whole]; done)
    | (rw [outsAt0_E m c t h0 h1 h2 h3]; funext y; frame_out; rw [read_unread_whole]; done)

/-- The maximum of the gate gradients, stored at the last point. -/
theorem out16 (t : Fin cfg0.N) (h : t.val % 84 = 83) :
    (outsAt0 m c t.val t.isLt).2.2.2.2.2.1 = fun _ => k0_pay1 (F := Ideal) (gm m c t.val t.isLt) := by
  rw [gm_step m c t (by omega)]
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_E m c t h0 h1 h2 h3]; funext y; frame_out; rw [read_unread_whole]; done)

/-- The maximum of the up gradients, stored at the last point. -/
theorem out17 (t : Fin cfg0.N) (h : t.val % 84 = 83) :
    (outsAt0 m c t.val t.isLt).2.2.2.2.2.2.1 = fun _ => k0_pay2 (F := Ideal) (um m c t.val t.isLt) := by
  rw [um_step m c t (by omega)]
  have hN := lt t
  by_cases h0 : t.val % 12 = 0 <;> by_cases h1 : t.val % 84 = 0 <;> by_cases h2 : t.val % 12 = 11 <;> by_cases h3 : t.val % 84 = 83
  all_goals first
    | (exfalso; omega)
    | (rw [outsAt0_E m c t h0 h1 h2 h3]; funext y; frame_out; rw [read_unread_whole]; done)

end Cert.MidIdeal.Val
end
-- ==== Proof.Pow2.lean ====
module

public import Idealize.ShloMosaic.Lib.Pipeline.ValueKit

@[expose] public section

set_option maxRecDepth 16384

noncomputable section

open Idealize.ShloMosaic

/-! The power of two above a scale, found two ways: by bisection on its exponent (the kernel) and from its logarithm (the
reference). Over the extended reals both are the same number. -/

namespace Cert.Pow2

/-- One step of the bisection on the value: scaled down by `k` when it is at least `p`. -/
def stepM (p k m : EReal) : EReal := if p ≤ m then m * k else m

/-- The same step on the exponent: `s` more when the value is at least `p`. -/
def stepE (p : EReal) (s : BitVec 32) (m : EReal) (e : BitVec 32) : BitVec 32 := if p ≤ m then IntOp.addi e s else e

/-- The value the bisection starts from: `a`, or `2^16 a` when `a < 1`. -/
def startM (a : EReal) : EReal := if a < 1 then a * Ideal.ofBits .f32 0x47800000#32 else a

/-- The exponent the bisection starts from. -/
def startE (a : EReal) : BitVec 32 := if a < 1 then 111#32 else 127#32

/-- From a column's maximum `w` and the exponent found: 1 for an empty column, else the power of two of that exponent. -/
def ofExp (w : EReal) (e : BitVec 32) : EReal :=
  Ideal.ofBits .f32 (IntOp.shli .vector
    (IntOp.addi (if w < Ideal.ofBits .f32 0x3C000000#32 then 0#32 else IntOp.subi e 126#32) 127#32) 23#32)

/-- The next column scale as the kernel computes it from the column's maximum `w`. -/
def kernelScale (w : EReal) : EReal :=
  let a := w * Ideal.ofBits .f32 0x3B124925#32
  let m1 := startM a
  let m2 := stepM (Ideal.ofBits .f32 0x5F800000#32) (Ideal.ofBits .f32 0x1F800000#32) m1
  let m3 := stepM (Ideal.ofBits .f32 0x4F800000#32) (Ideal.ofBits .f32 0x2F800000#32) m2
  let m4 := stepM (Ideal.ofBits .f32 0x47800000#32) (Ideal.ofBits .f32 0x37800000#32) m3
  let m5 := stepM (Ideal.ofBits .f32 0x43800000#32) (Ideal.ofBits .f32 0x3B800000#32) m4
  let m6 := stepM (Ideal.ofBits .f32 0x41800000#32) (Ideal.ofBits .f32 0x3D800000#32) m5
  let m7 := stepM (Ideal.ofBits .f32 0x40800000#32) (Ideal.ofBits .f32 0x3E800000#32) m6
  let e2 := stepE (Ideal.ofBits .f32 0x5F800000#32) 64#32 m1 (startE a)
  let e3 := stepE (Ideal.ofBits .f32 0x4F800000#32) 32#32 m2 e2
  let e4 := stepE (Ideal.ofBits .f32 0x47800000#32) 16#32 m3 e3
  let e5 := stepE (Ideal.ofBits .f32 0x43800000#32) 8#32 m4 e4
  let e6 := stepE (Ideal.ofBits .f32 0x41800000#32) 4#32 m5 e5
  let e7 := stepE (Ideal.ofBits .f32 0x40800000#32) 2#32 m6 e6
  ofExp w (stepE (Ideal.ofBits .f32 0x40000000#32) 1#32 m7 e7)

/-- The next column scale as the reference computes it from the column's maximum `w`: 1 for an empty column, else the power
of two above `w / 448`, infinite from `2^127` on. -/
def scale (w : EReal) : EReal :=
  if w < Ideal.ofBits .f32 0x3C000000#32 then 1
  else if Ideal.ofBits .f32 0x7F000000#32 ≤ w * Ideal.ofBits .f32 0x3B124925#32 then Ideal.ofBits .f32 0x7F800000#32
  else Ideal.exp2 (Ideal.liftRound Int.floor
    (Ideal.div (Ideal.log (w * Ideal.ofBits .f32 0x3B124925#32)) (Ideal.log (Ideal.ofBits .f32 0x40000000#32))) + 1)

/-- The fields of the word with exponent field `n`, no sign and no fraction. -/
theorem fields : ∀ n : Fin 256, ((BitVec.ofNat 32 (n.val * 2 ^ 23)).extractLsb' 31 1 == 1#1) = false
    ∧ ((BitVec.ofNat 32 (n.val * 2 ^ 23)).extractLsb' 23 8).toNat = n.val
    ∧ ((BitVec.ofNat 32 (n.val * 2 ^ 23)).extractLsb' 0 23).toNat = 0 := by decide +kernel

/-- The word with exponent field `n` and no fraction reads `2^(n-127)`. -/
theorem bits_pow (n : ℕ) (h1 : 1 ≤ n) (h2 : n ≤ 254) :
    Ideal.ofBits .f32 (BitVec.ofNat 32 (n * 2 ^ 23)) = (((2 : ℝ) ^ ((n : ℤ) - 127) : ℝ) : EReal) := by
  obtain ⟨f1, f2, f3⟩ := fields ⟨n, by omega⟩
  dsimp only at f1 f2 f3
  have e0 : n ≠ 0 := by omega
  have e1 : n ≠ 255 := by omega
  simp only [Ideal.ofBits, Ideal.ieee]
  rw [show (8 + 23 : ℕ) = 31 from rfl, f1, f2, f3]
  rw [if_neg (by omega), if_neg e0]
  congr 1
  have h : ((2 : ℝ) ^ ((n : ℤ) - 127) : ℝ) = 2 ^ (23 : ℤ) * 2 ^ ((n : ℤ) - 127 - 23) := by
    rw [← zpow_add₀ (by norm_num)]; congr 1; ring
  rw [h]
  norm_num

/-- The word of two reads two. -/
theorem two_bits : Ideal.ofBits .f32 0x40000000#32 = (((2 : ℝ) ^ (1 : ℤ) : ℝ) : EReal) := bits_pow 128 (by decide) (by decide)

/-- The reciprocal of 448 as a float is a real number, at least `2^-9`. -/
theorem kappa : ∃ k : ℝ, Ideal.ofBits .f32 0x3B124925#32 = (k : EReal) ∧ (2 : ℝ) ^ (-9 : ℤ) ≤ k := by
  refine ⟨(2 ^ 23 + 1198373) * (2 : ℝ) ^ (-32 : ℤ), ?_, by norm_num⟩
  simp only [Ideal.ofBits, Ideal.ieee]
  rw [show ((0x3B124925#32 : BitVec 32).extractLsb' (8 + 23) 1 == 1#1) = false from by decide,
    show ((0x3B124925#32 : BitVec 32).extractLsb' 23 8).toNat = 118 from by decide,
    show ((0x3B124925#32 : BitVec 32).extractLsb' 0 23).toNat = 1198373 from by decide]
  rw [if_neg (by decide), if_neg (by decide)]
  norm_num

/-- Where the bisection stands: the value `m` is a real number in `[1, 2^n)`, and `r` is `m` times the power of two that the
exponent `e` stands for. -/
def At (r : ℝ) (n : ℕ) (m : EReal) (e : BitVec 32) : Prop :=
  ∃ (q : ℝ) (N : ℕ), m = (q : EReal) ∧ 1 ≤ q ∧ q < 2 ^ n ∧ e = BitVec.ofNat 32 N ∧ r = q * 2 ^ ((N : ℤ) - 127)

/-- One step halves the range. -/
theorem At.step {r : ℝ} {m : EReal} {e : BitVec 32} (s : ℕ) {p k : EReal} (hp : p = (((2 : ℝ) ^ (s : ℤ) : ℝ) : EReal))
    (hk : k = (((2 : ℝ) ^ (-(s : ℤ)) : ℝ) : EReal)) (h : At r (s + s) m e) :
    At r s (stepM p k m) (stepE p (BitVec.ofNat 32 s) m e) := by
  obtain ⟨q, N, rfl, h1, h2, rfl, hr⟩ := h
  subst hp hk
  have hs : (0 : ℝ) < 2 ^ s := by positivity
  by_cases hq : (2 : ℝ) ^ s ≤ q
  · have c : (((2 : ℝ) ^ (s : ℤ) : ℝ) : EReal) ≤ (q : EReal) := by rw [EReal.coe_le_coe_iff]; simpa using hq
    refine ⟨q * 2 ^ (-(s : ℤ)), N + s, ?_, ?_, ?_, ?_, ?_⟩
    · rw [stepM, if_pos c, EReal.coe_mul]
    · rw [zpow_neg, zpow_natCast, ← div_eq_mul_inv, le_div_iff₀ hs]; simpa using hq
    · rw [zpow_neg, zpow_natCast, ← div_eq_mul_inv, div_lt_iff₀ hs, ← pow_add]; exact h2
    · rw [stepE, if_pos c]; simp [IntOp.addi, BitVec.ofNat_add]
    · rw [hr, mul_assoc, ← zpow_add₀ (by norm_num)]; congr 2; push_cast; ring
  · have c : ¬ (((2 : ℝ) ^ (s : ℤ) : ℝ) : EReal) ≤ (q : EReal) := by rw [EReal.coe_le_coe_iff]; simpa using hq
    exact ⟨q, N, by rw [stepM, if_neg c], h1, not_le.mp hq, by rw [stepE, if_neg c], hr⟩

/-- The bisection starts there. -/
theorem At.start {r : ℝ} (h1 : (2 : ℝ) ^ (-16 : ℤ) ≤ r) (h2 : r < 2 ^ (127 : ℤ)) : At r (64 + 64) (startM (r : EReal)) (startE (r : EReal)) := by
  have e16 := bits_pow 143 (by decide) (by decide)
  by_cases hr : r < 1
  · have c : (r : EReal) < 1 := by exact_mod_cast hr
    refine ⟨r * 2 ^ (16 : ℤ), 111, ?_, ?_, ?_, ?_, ?_⟩
    · rw [startM, if_pos c, EReal.coe_mul]; congr 1
    · norm_num at h1 ⊢; linarith
    · norm_num; linarith
    · rw [startE, if_pos c]
    · norm_num; ring
  · have c : ¬ (r : EReal) < 1 := by exact_mod_cast hr
    refine ⟨r, 127, ?_, not_lt.mp hr, ?_, ?_, ?_⟩
    · rw [startM, if_neg c]
    · norm_num at h2 ⊢; linarith
    · rw [startE, if_neg c]
    · norm_num

/-- The exponent word of the result. -/
theorem shifted : ∀ N : Fin 254, IntOp.shli .vector (IntOp.addi (IntOp.subi (BitVec.ofNat 32 N.val) 126#32) 127#32) 23#32
    = BitVec.ofNat 32 ((N.val + 1) * 2 ^ 23) := by
  intro N
  have h : ∀ N : Fin 254, ((BitVec.ofNat 32 N.val - 126#32 + 127#32) <<< (23#32 : BitVec 32)) = BitVec.ofNat 32 ((N.val + 1) * 2 ^ 23) := by
    decide +kernel
  exact h N

/-- Where the bisection ends: the value in `[1, 2)`, so the exponent is the floor of the logarithm. -/
theorem At.floor {r : ℝ} {m : EReal} {e : BitVec 32} (h : At r 1 m e) (h1 : (2 : ℝ) ^ (-16 : ℤ) ≤ r) (h2 : r < 2 ^ (127 : ℤ)) :
    ∃ N : ℕ, e = BitVec.ofNat 32 N ∧ 111 ≤ N ∧ N < 254 ∧ ⌊Real.log r / Real.log 2⌋ = (N : ℤ) - 127 := by
  obtain ⟨q, N, rfl, q1, q2, rfl, hr⟩ := h
  have pos : (0 : ℝ) < 2 ^ ((N : ℤ) - 127) := by positivity
  have lo : (2 : ℝ) ^ ((N : ℤ) - 127) ≤ r := by rw [hr]; nlinarith
  have hi : r < (2 : ℝ) ^ ((N : ℤ) - 127 + 1) := by
    rw [hr, zpow_add₀ (by norm_num)]; norm_num at q2 ⊢; nlinarith
  have b1 : (N : ℤ) - 127 < 127 := (zpow_lt_zpow_iff_right₀ (by norm_num : (1 : ℝ) < 2)).mp (lo.trans_lt h2)
  have b2 : (-16 : ℤ) < (N : ℤ) - 127 + 1 := (zpow_lt_zpow_iff_right₀ (by norm_num : (1 : ℝ) < 2)).mp (h1.trans_lt hi)
  have rpos : 0 < r := pos.trans_le lo
  have l2 : 0 < Real.log 2 := Real.log_pos (by norm_num)
  refine ⟨N, rfl, by omega, by omega, ?_⟩
  rw [Int.floor_eq_iff]
  constructor
  · rw [le_div_iff₀ l2, ← Real.log_zpow]
    exact Real.log_le_log pos lo
  · rw [div_lt_iff₀ l2]
    have := Real.log_lt_log rpos hi
    rw [Real.log_zpow] at this
    push_cast at this ⊢
    exact this

/-- Above `2^s` a step divides and keeps the lower bound, divided. -/
theorem stepM_ge {p k m q q' : EReal} (h : q ≤ m) (hp : p ≤ q) (hk : 0 ≤ k) (hq : q' = q * k) : q' ≤ stepM p k m := by
  rw [stepM, if_pos (hp.trans h), hq]
  exact mul_le_mul_of_nonneg_right h hk

/-- From `2^127` on every test of the bisection succeeds: the exponent is 254. -/
theorem top {a : EReal} (h : Ideal.ofBits .f32 0x7F000000#32 ≤ a) (w : EReal) (hw : ¬ w < Ideal.ofBits .f32 0x3C000000#32)
    (ha : a = w * Ideal.ofBits .f32 0x3B124925#32) : kernelScale w = Ideal.ofBits .f32 0x7F800000#32 := by
  have b (n : ℕ) (h1 : 1 ≤ n) (h2 : n ≤ 254) : (0 : EReal) ≤ Ideal.ofBits .f32 (BitVec.ofNat 32 (n * 2 ^ 23)) := by
    rw [bits_pow n h1 h2]; exact_mod_cast (by positivity : (0 : ℝ) ≤ 2 ^ ((n : ℤ) - 127))
  have le (i j : ℕ) (hi : 1 ≤ i) (hij : i ≤ j) (hj : j ≤ 254) :
      Ideal.ofBits .f32 (BitVec.ofNat 32 (i * 2 ^ 23)) ≤ Ideal.ofBits .f32 (BitVec.ofNat 32 (j * 2 ^ 23)) := by
    rw [bits_pow i hi (hij.trans hj), bits_pow j (hi.trans hij) hj, EReal.coe_le_coe_iff]
    exact zpow_le_zpow_right₀ (by norm_num) (by omega)
  have mul (i j k : ℕ) (hi : 1 ≤ i ∧ i ≤ 254) (hj : 1 ≤ j ∧ j ≤ 254) (hk : 1 ≤ k ∧ k ≤ 254) (h : i + 127 = j + k) :
      Ideal.ofBits .f32 (BitVec.ofNat 32 (i * 2 ^ 23))
        = Ideal.ofBits .f32 (BitVec.ofNat 32 (j * 2 ^ 23)) * Ideal.ofBits .f32 (BitVec.ofNat 32 (k * 2 ^ 23)) := by
    rw [bits_pow i hi.1 hi.2, bits_pow j hj.1 hj.2, bits_pow k hk.1 hk.2, ← EReal.coe_mul, ← zpow_add₀ (by norm_num)]
    congr 2; omega
  have n1 : ¬ a < 1 := by
    have h1 := bits_pow 127 (by decide) (by decide)
    rw [show ((2 : ℝ) ^ (((127 : ℕ) : ℤ) - 127)) = 1 from by norm_num, EReal.coe_one] at h1
    rw [not_lt, ← h1]; exact (le 127 254 (by decide) (by decide) (by decide)).trans h
  have m1 : Ideal.ofBits .f32 (BitVec.ofNat 32 (254 * 2 ^ 23)) ≤ startM a := by rw [startM, if_neg n1]; exact h
  have m2 := stepM_ge m1 (le 191 254 (by decide) (by decide) (by decide)) (b 63 (by decide) (by decide)) (mul 190 254 63 (by decide) (by decide) (by decide) rfl)
  have m3 := stepM_ge m2 (le 159 190 (by decide) (by decide) (by decide)) (b 95 (by decide) (by decide)) (mul 158 190 95 (by decide) (by decide) (by decide) rfl)
  have m4 := stepM_ge m3 (le 143 158 (by decide) (by decide) (by decide)) (b 111 (by decide) (by decide)) (mul 142 158 111 (by decide) (by decide) (by decide) rfl)
  have m5 := stepM_ge m4 (le 135 142 (by decide) (by decide) (by decide)) (b 119 (by decide) (by decide)) (mul 134 142 119 (by decide) (by decide) (by decide) rfl)
  have m6 := stepM_ge m5 (le 131 134 (by decide) (by decide) (by decide)) (b 123 (by decide) (by decide)) (mul 130 134 123 (by decide) (by decide) (by decide) rfl)
  have m7 := stepM_ge m6 (le 129 130 (by decide) (by decide) (by decide)) (b 125 (by decide) (by decide)) (mul 128 130 125 (by decide) (by decide) (by decide) rfl)
  have c1 := (le 191 254 (by decide) (by decide) (by decide)).trans m1
  have c2 := (le 159 190 (by decide) (by decide) (by decide)).trans m2
  have c3 := (le 143 158 (by decide) (by decide) (by decide)).trans m3
  have c4 := (le 135 142 (by decide) (by decide) (by decide)).trans m4
  have c5 := (le 131 134 (by decide) (by decide) (by decide)).trans m5
  have c6 := (le 129 130 (by decide) (by decide) (by decide)).trans m6
  have c7 := m7
  have hE : startE a = 127#32 := by rw [startE, if_neg n1]
  have st {p m : EReal} (s e e' : BitVec 32) (c : p ≤ m) (he : e' = IntOp.addi e s) : stepE p s m e = e' := by
    rw [stepE, if_pos c, he]
  rw [kernelScale, ← ha]
  have e1 := st 64#32 (startE a) 191#32 c1 (by rw [hE]; decide)
  have e2 := st 32#32 191#32 223#32 c2 (by decide)
  have e3 := st 16#32 223#32 239#32 c3 (by decide)
  have e4 := st 8#32 239#32 247#32 c4 (by decide)
  have e5 := st 4#32 247#32 251#32 c5 (by decide)
  have e6 := st 2#32 251#32 253#32 c6 (by decide)
  have e7 := st 1#32 253#32 254#32 c7 (by decide)
  have f : ofExp w 254#32 = Ideal.ofBits .f32 0x7F800000#32 := by
    rw [ofExp, if_neg hw]
    exact congrArg (Ideal.ofBits .f32) (by decide : ((254#32 - 126#32 + 127#32) <<< (23#32 : BitVec 32)) = (0x7F800000#32 : BitVec 32))
  refine Eq.trans (congrArg (ofExp w) ?_) f
  refine Eq.trans (congrArg _ ?_) e7
  refine Eq.trans (congrArg _ ?_) e6
  refine Eq.trans (congrArg _ ?_) e5
  refine Eq.trans (congrArg _ ?_) e4
  refine Eq.trans (congrArg _ ?_) e3
  refine Eq.trans (congrArg _ ?_) e2
  exact e1

/-- The kernel's next column scale is the reference's, at every column maximum. -/
theorem kernelScale_eq (w : EReal) : kernelScale w = scale w := by
  by_cases hw : w < Ideal.ofBits .f32 0x3C000000#32
  · rw [scale, if_pos hw, kernelScale, ofExp, if_pos hw]
    have h := bits_pow 127 (by decide) (by decide)
    rw [show ((2 : ℝ) ^ (((127 : ℕ) : ℤ) - 127)) = 1 from by norm_num, EReal.coe_one] at h
    exact h
  rw [scale, if_neg hw]
  by_cases ht : Ideal.ofBits .f32 0x7F000000#32 ≤ w * Ideal.ofBits .f32 0x3B124925#32
  · rw [if_pos ht]; exact top ht w hw rfl
  rw [if_neg ht]
  obtain ⟨k, hk, hk9⟩ := kappa
  have e7 := bits_pow 120 (by decide) (by decide)
  have e127 := bits_pow 254 (by decide) (by decide)
  have kpos : 0 < k := lt_of_lt_of_le (by positivity) hk9
  have hw' : (((2 : ℝ) ^ (-7 : ℤ) : ℝ) : EReal) ≤ w := by
    have := not_lt.mp hw
    exact e7.symm.le.trans this
  have key : ∃ r : ℝ, w * (k : EReal) = (r : EReal) ∧ (2 : ℝ) ^ (-16 : ℤ) ≤ r ∧ r < 2 ^ (127 : ℤ) := by
    have ht' : w * (k : EReal) < (((2 : ℝ) ^ (127 : ℤ) : ℝ) : EReal) := by
      rw [← hk]; exact (not_le.mp ht).trans_le e127.le
    induction w using EReal.rec with
    | bot => exact absurd (le_bot_iff.mp hw') (EReal.coe_ne_bot _)
    | top => rw [EReal.top_mul_coe_of_pos kpos] at ht'; exact absurd ht' not_top_lt
    | coe x =>
      rw [← EReal.coe_mul] at ht' ⊢
      rw [EReal.coe_le_coe_iff] at hw'
      refine ⟨_, rfl, ?_, EReal.coe_lt_coe_iff.mp ht'⟩
      calc (2 : ℝ) ^ (-16 : ℤ) = 2 ^ (-7 : ℤ) * 2 ^ (-9 : ℤ) := by norm_num
        _ ≤ x * k := mul_le_mul hw' hk9 (by positivity) ((by positivity : (0 : ℝ) ≤ 2 ^ (-7 : ℤ)).trans hw')
  obtain ⟨r, hr, r1, r2⟩ := key
  rw [hk, hr, kernelScale, hk, hr]
  have a1 := At.start r1 r2
  have a2 := a1.step 64 (bits_pow 191 (by decide) (by decide)) (bits_pow 63 (by decide) (by decide))
  have a3 := At.step 32 (bits_pow 159 (by decide) (by decide)) (bits_pow 95 (by decide) (by decide)) a2
  have a4 := At.step 16 (bits_pow 143 (by decide) (by decide)) (bits_pow 111 (by decide) (by decide)) a3
  have a5 := At.step 8 (bits_pow 135 (by decide) (by decide)) (bits_pow 119 (by decide) (by decide)) a4
  have a6 := At.step 4 (bits_pow 131 (by decide) (by decide)) (bits_pow 123 (by decide) (by decide)) a5
  have a7 := At.step 2 (bits_pow 129 (by decide) (by decide)) (bits_pow 125 (by decide) (by decide)) a6
  have a8 := At.step 1 (bits_pow 128 (by decide) (by decide)) (bits_pow 126 (by decide) (by decide)) a7
  obtain ⟨N, hN, n1, n2, hf⟩ := a8.floor r1 r2
  have hfin : ofExp w (BitVec.ofNat 32 N) = (((2 : ℝ) ^ ((N : ℤ) - 127 + 1) : ℝ) : EReal) := by
    rw [ofExp, if_neg hw, shifted ⟨N, n2⟩, bits_pow (N + 1) (by omega) (by omega)]
    push_cast; congr 2; ring
  have hexp : Ideal.exp2 (Ideal.liftRound Int.floor (Ideal.div (Ideal.log (r : EReal)) (Ideal.log (Ideal.ofBits .f32 0x40000000#32))) + 1)
      = (((2 : ℝ) ^ ((N : ℤ) - 127 + 1) : ℝ) : EReal) := by
    have rpos : 0 < r := lt_of_lt_of_le (by positivity) r1
    have l2 : Real.log 2 ≠ 0 := (Real.log_pos (by norm_num)).ne'
    have g1 : Ideal.log (r : EReal) = ((Real.log r : ℝ) : EReal) := if_neg (not_le.mpr rpos)
    have g2 : Ideal.log (Ideal.ofBits .f32 0x40000000#32) = ((Real.log 2 : ℝ) : EReal) := by
      rw [two_bits, zpow_one]; exact if_neg (by norm_num)
    have g3 : Ideal.div ((Real.log r : ℝ) : EReal) ((Real.log 2 : ℝ) : EReal) = ((Real.log r / Real.log 2 : ℝ) : EReal) := by
      rw [Ideal.div, if_neg (by exact_mod_cast l2), div_eq_mul_inv, EReal.coe_mul, EReal.coe_inv]
    have g4 : Ideal.liftRound Int.floor ((Real.log r / Real.log 2 : ℝ) : EReal) = (((⌊Real.log r / Real.log 2⌋ : ℤ) : ℝ) : EReal) := rfl
    rw [g1, g2, g3, g4, hf, ← EReal.coe_one, ← EReal.coe_add]
    show ((Real.rpow 2 _ : ℝ) : EReal) = _
    congr 1
    rw [← Real.rpow_intCast]
    show (2 : ℝ) ^ (_ : ℝ) = _
    congr 1; push_cast; ring
  rw [hexp, ← hfin, ← hN]
  rfl

end Cert.Pow2
end
-- ==== Proof.MidSpec.lean ====
module

public import proofs.«01_k».proof.Proof.MidBlocks
public import proofs.«01_k».proof.Proof.Max
public import proofs.«01_k».proof.Proof.Pow2
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

/-! What the fused call returns, as mathematics, and the values of one block of it. -/

namespace Cert.MidIdeal.Val
open Cert.MidIdeal Cert.MidIdeal.Gen

/-- The gradient of the gate. -/
def DG (x : FVec Ideal S6144x8192 .fp8e4m3) (dy : FVec Ideal S6144x8192 .fp8e5m2) (wg wu : FVec Ideal S8192x3584 .fp8e4m3)
    (w2 : FVec Ideal S3584x8192 .fp8e4m3) (cs : FVec Ideal S3584 .f32) (xs gs us ds ws : FVec Ideal S_ .f32)
    (i : Fin 6144) (j : Fin 3584) : EReal :=
  dgate (prod x wg xs gs i j) (prod x wu xs us i j) (DH dy w2 cs ds ws i j)

/-- The gradient of up. -/
def DU (x : FVec Ideal S6144x8192 .fp8e4m3) (dy : FVec Ideal S6144x8192 .fp8e5m2) (wg : FVec Ideal S8192x3584 .fp8e4m3)
    (w2 : FVec Ideal S3584x8192 .fp8e4m3) (cs : FVec Ideal S3584 .f32) (xs gs ds ws : FVec Ideal S_ .f32)
    (i : Fin 6144) (j : Fin 3584) : EReal :=
  dup (prod x wg xs gs i j) (DH dy w2 cs ds ws i j)

/-- The codes of a matrix whose columns have the scales `s`. -/
def colcodes (f : Fin 6144 → Fin 3584 → EReal) (s : FVec Ideal S3584 .f32) : FVec Ideal S6144x3584 .fp8e4m3 :=
  fun y => code 0xC3E00000#32 0x43E00000#32 (f (y 0) (y 1)) (s (ix1 (y 1)))

/-- The codes of a matrix with one scale `s`. -/
def codes (f : Fin 6144 → Fin 3584 → EReal) (s : FVec Ideal S_ .f32) : FVec Ideal S6144x3584 .fp8e5m2 :=
  fun y => code 0xC7600000#32 0x47600000#32 (f (y 0) (y 1)) (s ix0)

/-- The largest absolute value of every column, as a row. -/
def colmaxs (f : Fin 6144 → Fin 3584 → EReal) : FVec Ideal S1x3584 .f32 := fun y => Cert.Max.colmax f (y 1)

/-- The next scale of every column, as a row. -/
def scales (f : Fin 6144 → Fin 3584 → EReal) : FVec Ideal S1x3584 .f32 := fun y => Cert.Pow2.scale (Cert.Max.colmax f (y 1))

/-- The largest absolute value of a matrix, as a one-element matrix. -/
def amaxs (f : Fin 6144 → Fin 3584 → EReal) : FVec Ideal S1x1 .f32 := fun _ => Cert.Max.amax f

end Cert.MidIdeal.Val
end
-- ==== Proof.MidApply.lean ====
module

public import proofs.«01_k».proof.Proof.MidSpec
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.MidIdeal.Val
open Cert.MidIdeal Cert.MidIdeal.Gen

variable (m : (ℓ : Loc nD τ sig) → Buf (Elt Ideal) ℓ) (c : Dev nD)

/-- The hidden values, the gradient of the gate and the gradient of up, of the arguments. -/
abbrev aH : Fin 6144 → Fin 3584 → EReal := H (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8))
/-- The gradient of the gate, of the arguments. -/
abbrev aDG : Fin 6144 → Fin 3584 → EReal := DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
/-- The gradient of up, of the arguments. -/
abbrev aDU : Fin 6144 → Fin 3584 → EReal := DU (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10))

/-- The product of two scalars. -/
def both (a b : FVec Ideal S_ .f32) : EReal := a ix0 * b ix0

/-- The scalars each point reads: products of two of the scalar arguments, or one of them. -/
theorem sc0_eq (t : Fin cfg0.N) : sc0 m c t = both (m ((c : Thread nD τ).loc main_arg6)) (m ((c : Thread nD τ).loc main_arg7)) := by
  show sc0 m c t = (show EReal from ((m ((c : Thread nD τ).loc main_arg6)) : FVec Ideal S_ .f32) ix0) * ((m ((c : Thread nD τ).loc main_arg7)) : FVec Ideal S_ .f32) ix0
  unfold sc0
  pointwise []
  blk_point [iblk, V, idx t]
/-- The scale of up. -/
theorem sc1_eq (t : Fin cfg0.N) : sc1 m c t = both (m ((c : Thread nD τ).loc main_arg6)) (m ((c : Thread nD τ).loc main_arg8)) := by
  show sc1 m c t = (show EReal from ((m ((c : Thread nD τ).loc main_arg6)) : FVec Ideal S_ .f32) ix0) * ((m ((c : Thread nD τ).loc main_arg8)) : FVec Ideal S_ .f32) ix0
  unfold sc1
  pointwise []
  blk_point [iblk, V, idx t]
/-- The scale of the hidden gradient. -/
theorem sc2_eq (t : Fin cfg0.N) : sc2 m c t = both (m ((c : Thread nD τ).loc main_arg9)) (m ((c : Thread nD τ).loc main_arg10)) := by
  show sc2 m c t = (show EReal from ((m ((c : Thread nD τ).loc main_arg9)) : FVec Ideal S_ .f32) ix0) * ((m ((c : Thread nD τ).loc main_arg10)) : FVec Ideal S_ .f32) ix0
  unfold sc2
  pointwise []
  blk_point [iblk, V, idx t]
/-- The scale of the gate's codes. -/
theorem sc3_eq (t : Fin cfg0.N) : sc3 m c t = (m ((c : Thread nD τ).loc main_arg11)) ix0 := by
  unfold sc3
  pointwise []
  blk_point [iblk, V, idx t]
/-- The scale of up's codes. -/
theorem sc4_eq (t : Fin cfg0.N) : sc4 m c t = (m ((c : Thread nD τ).loc main_arg12)) ix0 := by
  unfold sc4
  pointwise []
  blk_point [iblk, V, idx t]

/-- The block of gates. -/
theorem gB_apply (t : Fin cfg0.N) (y : S512x512.Idx) (i : Fin 6144) (j : Fin 3584) (hi : i.val = 512 * (t.val % 12) + (y 0).val)
    (hj : j.val = 512 * (t.val / 12) + (y 1).val) :
    gB m c t y = prod (m ((c : Thread nD τ).loc main_arg0)) (m ((c : Thread nD τ).loc main_arg2)) (m ((c : Thread nD τ).loc main_arg6)) (m ((c : Thread nD τ).loc main_arg7)) i j := by
  unfold gB
  have hs := sc0_eq m c t
  revert hs
  generalize sc0 m c t = s
  intro hs
  subst hs
  pointwise [k0_pay14, prod, both]
  blk_point [iblk, V, idx t]

/-- The block of ups. -/
theorem uB_apply (t : Fin cfg0.N) (y : S512x512.Idx) (i : Fin 6144) (j : Fin 3584) (hi : i.val = 512 * (t.val % 12) + (y 0).val)
    (hj : j.val = 512 * (t.val / 12) + (y 1).val) :
    uB m c t y = prod (m ((c : Thread nD τ).loc main_arg0)) (m ((c : Thread nD τ).loc main_arg3)) (m ((c : Thread nD τ).loc main_arg6)) (m ((c : Thread nD τ).loc main_arg8)) i j := by
  unfold uB
  have hs := sc1_eq m c t
  revert hs
  generalize sc1 m c t = s
  intro hs
  subst hs
  pointwise [k0_pay15, prod, both]
  blk_point [iblk, V, idx t]

/-- The block of hidden gradients. -/
theorem dB_apply (t : Fin cfg0.N) (y : S512x512.Idx) (i : Fin 6144) (j : Fin 3584) (hi : i.val = 512 * (t.val % 12) + (y 0).val)
    (hj : j.val = 512 * (t.val / 12) + (y 1).val) :
    dB m c t y = DH (m ((c : Thread nD τ).loc main_arg1)) (m ((c : Thread nD τ).loc main_arg4)) (m ((c : Thread nD τ).loc main_arg5)) (m ((c : Thread nD τ).loc main_arg9)) (m ((c : Thread nD τ).loc main_arg10)) i j := by
  unfold dB
  have hs := sc2_eq m c t
  revert hs
  generalize sc2 m c t = s
  intro hs
  subst hs
  pointwise [k0_pay20, k0_pay16, DH, both]
  blk_point [iblk, V, idx t]

/-- The values of a block from the blocks it is made of, place by place. -/
theorem pay17_apply (x : FVec Ideal S512x8192 .fp8e4m3) (w : FVec Ideal S8192x512 .fp8e4m3) (s : EReal) (y : S512x512.Idx) :
    k0_pay17 (F := Ideal) x w s y = Ideal.logistic (k0_pay14 (F := Ideal) x w s y) := rfl
/-- A hidden value from its gate and up. -/
theorem pay18_apply (x : FVec Ideal S512x8192 .fp8e4m3) (w w' : FVec Ideal S8192x512 .fp8e4m3) (s s' : EReal) (y : S512x512.Idx) :
    k0_pay18 (F := Ideal) x w s w' s' y = hid (k0_pay14 (F := Ideal) x w s y) (k0_pay15 (F := Ideal) x w' s' y) := rfl
/-- A gate gradient from its gate, up, sigmoid and hidden gradient. -/
theorem pay21_apply (g u s d : FVec Ideal S512x512 .f32) (y : S512x512.Idx) (g' u' d' : EReal) (hg : g y = g') (hu : u y = u')
    (hs : s y = Ideal.logistic g') (hd : d y = d') : k0_pay21 (F := Ideal) g u s d y = dgate g' u' d' := by
  subst hg hu hd
  pointwise [k0_pay21, dgate]
  rw [hs]
/-- An up gradient from its gate, sigmoid and hidden gradient. -/
theorem pay22_apply (g s d : FVec Ideal S512x512 .f32) (y : S512x512.Idx) (g' d' : EReal) (hg : g y = g')
    (hs : s y = Ideal.logistic g') (hd : d y = d') : k0_pay22 (F := Ideal) g s d y = dup g' d' := by
  subst hg hd
  pointwise [k0_pay22, dup]
  rw [hs]

/-- The sigmoids are those of the gates. -/
theorem sB_apply (t : Fin cfg0.N) (y : S512x512.Idx) (i : Fin 6144) (j : Fin 3584) (hi : i.val = 512 * (t.val % 12) + (y 0).val)
    (hj : j.val = 512 * (t.val / 12) + (y 1).val) :
    sB m c t y = Ideal.logistic (prod (m ((c : Thread nD τ).loc main_arg0)) (m ((c : Thread nD τ).loc main_arg2)) (m ((c : Thread nD τ).loc main_arg6)) (m ((c : Thread nD τ).loc main_arg7)) i j) :=
  (pay17_apply _ _ _ y).trans (congrArg Ideal.logistic (gB_apply m c t y i j hi hj))

/-- The blocks of hidden values, of gate gradients and of up gradients. -/
theorem hB_apply (t : Fin cfg0.N) (y : S512x512.Idx) (i : Fin 6144) (j : Fin 3584) (hi : i.val = 512 * (t.val % 12) + (y 0).val)
    (hj : j.val = 512 * (t.val / 12) + (y 1).val) : hB m c t y = aH m c i j := by
  unfold aH H
  exact (pay18_apply _ _ _ _ _ y).trans (congrArg₂ hid (gB_apply m c t y i j hi hj) (uB_apply m c t y i j hi hj))

/-- The block of gate gradients. -/
theorem dgB_apply (t : Fin cfg0.N) (y : S512x512.Idx) (i : Fin 6144) (j : Fin 3584) (hi : i.val = 512 * (t.val % 12) + (y 0).val)
    (hj : j.val = 512 * (t.val / 12) + (y 1).val) : dgB m c t y = aDG m c i j := by
  unfold aDG DG
  exact pay21_apply _ _ _ _ y _ _ _ (gB_apply m c t y i j hi hj) (uB_apply m c t y i j hi hj) (sB_apply m c t y i j hi hj) (dB_apply m c t y i j hi hj)

/-- The block of up gradients. -/
theorem duB_apply (t : Fin cfg0.N) (y : S512x512.Idx) (i : Fin 6144) (j : Fin 3584) (hi : i.val = 512 * (t.val % 12) + (y 0).val)
    (hj : j.val = 512 * (t.val / 12) + (y 1).val) : duB m c t y = aDU m c i j := by
  unfold aDU DU
  exact pay22_apply _ _ _ y _ _ (gB_apply m c t y i j hi hj) (sB_apply m c t y i j hi hj) (dB_apply m c t y i j hi hj)

end Cert.MidIdeal.Val
end
-- ==== Proof.MidMax.lean ====
module

public import proofs.«01_k».proof.Proof.MidApply
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

/-! The running maxima of the fused call: what bounds each scratch after every point, and so the maxima written out. -/

namespace Cert.MidIdeal.Val
open Cert.MidIdeal Cert.MidIdeal.Gen

/-- What bounds the absolute values of one row class and column of a block, in the whole matrix's rows and columns. -/
theorem blk_le (v : FVec Ideal S512x512 .f32) (f : Fin 6144 → Fin 3584 → EReal) (p q : ℕ) (hp : p < 12) (hq : q < 7)
    (hv : ∀ (y : S512x512.Idx) (i : Fin 6144) (j : Fin 3584), i.val = 512 * p + (y 0).val → j.val = 512 * q + (y 1).val → v y = f i j)
    (r : ℕ) (hr : r < 8) (l : Fin 512) (h : ∀ k : Fin 64, k.val * 8 + r < 512) (b : EReal) :
    (∀ k : Fin 64, Cert.Max.abs (v (ix2 (⟨k.val * 8 + r, h k⟩ : Fin 512) (l : Fin 512))) ≤ b)
      ↔ ∀ (i : Fin 6144) (j : Fin 3584), i.val / 512 = p → i.val % 8 = r → j.val = 512 * q + l.val → Cert.Max.abs (f i j) ≤ b := by
  constructor
  · intro H i j hi h8 hj
    have h1 := H ⟨(i.val - 512 * p) / 8, by omega⟩
    rwa [hv _ i j (by show i.val = 512 * p + ((i.val - 512 * p) / 8 * 8 + r); omega) hj] at h1
  · intro H k
    have hk := k.isLt
    have hl := l.isLt
    have h1 := H ⟨512 * p + (k.val * 8 + r), by omega⟩ ⟨512 * q + l.val, by omega⟩ (by simp only; omega) (by simp only; omega) rfl
    rwa [hv _ ⟨512 * p + (k.val * 8 + r), by omega⟩ ⟨512 * q + l.val, by omega⟩ rfl rfl]

/-- One update of the column scratch, and of the gradient scratches. -/
theorem pay29_apply (v : FVec Ideal S512x512 .f32) (p : FVec Ideal S8x512 .f32) (r : Fin 8) (l : Fin 512) (b : EReal) :
    k0_pay29 (F := Ideal) (k0_pay28 (F := Ideal) v) p (ix2 r l) ≤ b ↔ p (ix2 r l) ≤ b
      ∧ ∀ k : Fin 64, Cert.Max.abs (v (ix2 (⟨k.val * 8 + r.val, by have := k.isLt; have := r.isLt; omega⟩ : Fin 512) (l : Fin 512))) ≤ b := by
  pointwise [k0_pay29, k0_pay28]
  exact max_le_iff.trans (and_congr_right' (Cert.Max.fold_le _ _))

/-- One update of the gate-gradient scratch. -/
theorem pay30_apply (v : FVec Ideal S512x512 .f32) (p : FVec Ideal S8x128 .f32) (r : Fin 8) (l : Fin 128) (b : EReal) :
    k0_pay30 (F := Ideal) v p (ix2 r l) ≤ b ↔ p (ix2 r l) ≤ b
      ∧ (((∀ k : Fin 64, Cert.Max.abs (v (ix2 (⟨k.val * 8 + r.val, by have := k.isLt; have := r.isLt; omega⟩ : Fin 512) (⟨l.val, by have := l.isLt; omega⟩ : Fin 512))) ≤ b)
      ∧ (∀ k : Fin 64, Cert.Max.abs (v (ix2 (⟨k.val * 8 + r.val, by have := k.isLt; have := r.isLt; omega⟩ : Fin 512) (⟨128 + l.val, by have := l.isLt; omega⟩ : Fin 512))) ≤ b))
      ∧ (∀ k : Fin 64, Cert.Max.abs (v (ix2 (⟨k.val * 8 + r.val, by have := k.isLt; have := r.isLt; omega⟩ : Fin 512) (⟨256 + l.val, by have := l.isLt; omega⟩ : Fin 512))) ≤ b))
      ∧ (∀ k : Fin 64, Cert.Max.abs (v (ix2 (⟨k.val * 8 + r.val, by have := k.isLt; have := r.isLt; omega⟩ : Fin 512) (⟨384 + l.val, by have := l.isLt; omega⟩ : Fin 512))) ≤ b) := by
  pointwise [k0_pay30]
  exact max_le_iff.trans (and_congr_right' (max_le_iff.trans (and_congr (max_le_iff.trans (and_congr (max_le_iff.trans
    (and_congr (Cert.Max.fold_le _ _) (Cert.Max.fold_le _ _))) (Cert.Max.fold_le _ _))) (Cert.Max.fold_le _ _))))

/-- The same, in the whole matrix's rows and columns. -/
theorem pay30_le (v : FVec Ideal S512x512 .f32) (f : Fin 6144 → Fin 3584 → EReal) (n : ℕ) (hn : n < 84)
    (hv : ∀ (y : S512x512.Idx) (i : Fin 6144) (j : Fin 3584), i.val = 512 * (n % 12) + (y 0).val → j.val = 512 * (n / 12) + (y 1).val → v y = f i j)
    (p : FVec Ideal S8x128 .f32) (r : Fin 8) (l : Fin 128) (b : EReal) :
    k0_pay30 (F := Ideal) v p (ix2 r l) ≤ b ↔ p (ix2 r l) ≤ b ∧ ∀ (i : Fin 6144) (j : Fin 3584),
      j.val / 512 * 12 + i.val / 512 = n → i.val % 8 = r.val → j.val % 128 = l.val → Cert.Max.abs (f i j) ≤ b := by
  have hl := l.isLt
  have e := fun l' => blk_le v f (n % 12) (n / 12) (by omega) (by omega) hv r.val r.isLt l' (by intro k; have := k.isLt; have := r.isLt; omega) b
  rw [pay30_apply, e, e, e, e]
  refine and_congr_right' ⟨?_, ?_⟩
  · rintro ⟨⟨⟨h0, h1⟩, h2⟩, h3⟩ i j hij hi hj
    have hi' := i.isLt
    have hj' := j.isLt
    have hc : j.val = 512 * (n / 12) + l.val ∨ j.val = 512 * (n / 12) + (128 + l.val) ∨ j.val = 512 * (n / 12) + (256 + l.val)
      ∨ j.val = 512 * (n / 12) + (384 + l.val) := by omega
    have hr : i.val / 512 = n % 12 := by omega
    rcases hc with hc | hc | hc | hc
    · exact h0 i j hr hi hc
    · exact h1 i j hr hi hc
    · exact h2 i j hr hi hc
    · exact h3 i j hr hi hc
  · intro H
    refine ⟨⟨⟨?_, ?_⟩, ?_⟩, ?_⟩ <;>
    · intro i j hr hi hc
      have hc' := hc
      simp only at hc'
      exact H i j (by omega) hi (by omega)

/-- One update of the up-gradient scratch. -/
theorem pay31_apply (v : FVec Ideal S512x512 .f32) (p : FVec Ideal S8x128 .f32) (r : Fin 8) (l : Fin 128) (b : EReal) :
    k0_pay31 (F := Ideal) v p (ix2 r l) ≤ b ↔ p (ix2 r l) ≤ b
      ∧ (((∀ k : Fin 64, Cert.Max.abs (v (ix2 (⟨k.val * 8 + r.val, by have := k.isLt; have := r.isLt; omega⟩ : Fin 512) (⟨l.val, by have := l.isLt; omega⟩ : Fin 512))) ≤ b)
      ∧ (∀ k : Fin 64, Cert.Max.abs (v (ix2 (⟨k.val * 8 + r.val, by have := k.isLt; have := r.isLt; omega⟩ : Fin 512) (⟨128 + l.val, by have := l.isLt; omega⟩ : Fin 512))) ≤ b))
      ∧ (∀ k : Fin 64, Cert.Max.abs (v (ix2 (⟨k.val * 8 + r.val, by have := k.isLt; have := r.isLt; omega⟩ : Fin 512) (⟨256 + l.val, by have := l.isLt; omega⟩ : Fin 512))) ≤ b))
      ∧ (∀ k : Fin 64, Cert.Max.abs (v (ix2 (⟨k.val * 8 + r.val, by have := k.isLt; have := r.isLt; omega⟩ : Fin 512) (⟨384 + l.val, by have := l.isLt; omega⟩ : Fin 512))) ≤ b) := by
  pointwise [k0_pay31]
  exact max_le_iff.trans (and_congr_right' (max_le_iff.trans (and_congr (max_le_iff.trans (and_congr (max_le_iff.trans
    (and_congr (Cert.Max.fold_le _ _) (Cert.Max.fold_le _ _))) (Cert.Max.fold_le _ _))) (Cert.Max.fold_le _ _))))

/-- The same, in the whole matrix's rows and columns. -/
theorem pay31_le (v : FVec Ideal S512x512 .f32) (f : Fin 6144 → Fin 3584 → EReal) (n : ℕ) (hn : n < 84)
    (hv : ∀ (y : S512x512.Idx) (i : Fin 6144) (j : Fin 3584), i.val = 512 * (n % 12) + (y 0).val → j.val = 512 * (n / 12) + (y 1).val → v y = f i j)
    (p : FVec Ideal S8x128 .f32) (r : Fin 8) (l : Fin 128) (b : EReal) :
    k0_pay31 (F := Ideal) v p (ix2 r l) ≤ b ↔ p (ix2 r l) ≤ b ∧ ∀ (i : Fin 6144) (j : Fin 3584),
      j.val / 512 * 12 + i.val / 512 = n → i.val % 8 = r.val → j.val % 128 = l.val → Cert.Max.abs (f i j) ≤ b := by
  have hl := l.isLt
  have e := fun l' => blk_le v f (n % 12) (n / 12) (by omega) (by omega) hv r.val r.isLt l' (by intro k; have := k.isLt; have := r.isLt; omega) b
  rw [pay31_apply, e, e, e, e]
  refine and_congr_right' ⟨?_, ?_⟩
  · rintro ⟨⟨⟨h0, h1⟩, h2⟩, h3⟩ i j hij hi hj
    have hi' := i.isLt
    have hj' := j.isLt
    have hc : j.val = 512 * (n / 12) + l.val ∨ j.val = 512 * (n / 12) + (128 + l.val) ∨ j.val = 512 * (n / 12) + (256 + l.val)
      ∨ j.val = 512 * (n / 12) + (384 + l.val) := by omega
    have hr : i.val / 512 = n % 12 := by omega
    rcases hc with hc | hc | hc | hc
    · exact h0 i j hr hi hc
    · exact h1 i j hr hi hc
    · exact h2 i j hr hi hc
    · exact h3 i j hr hi hc
  · intro H
    refine ⟨⟨⟨?_, ?_⟩, ?_⟩, ?_⟩ <;>
    · intro i j hr hi hc
      have hc' := hc
      simp only at hc'
      exact H i j (by omega) hi (by omega)

/-- The column scratch starts from zero. -/
theorem pay25_apply (y : S8x512.Idx) : k0_pay25 (F := Ideal) y = 0 := by
  pointwise [k0_pay25]
/-- The gate-gradient scratch starts from zero. -/
theorem pay26_apply (y : S8x128.Idx) : k0_pay26 (F := Ideal) y = 0 := by
  pointwise [k0_pay26]
/-- The up-gradient scratch starts from zero. -/
theorem pay27_apply (y : S8x128.Idx) : k0_pay27 (F := Ideal) y = 0 := by
  pointwise [k0_pay27]

variable (m : (ℓ : Loc nD τ sig) → Buf (Elt Ideal) ℓ) (c : Dev nD)

/-- What bounds the column scratch after every point: zero and the absolute hidden values of the column's rows seen so far. -/
theorem hm_le : ∀ (n : ℕ) (hn : n < cfg0.N) (r : Fin 8) (l : Fin 512) (b : EReal), hm m c n hn (ix2 r l) ≤ b ↔ 0 ≤ b
    ∧ ∀ (i : Fin 6144) (j : Fin 3584), i.val / 512 ≤ n % 12 → i.val % 8 = r.val → j.val = 512 * (n / 12) + l.val → Cert.Max.abs (aH m c i j) ≤ b := by
  intro n
  induction n with
  | zero =>
    intro hn r l b
    have e := blk_le (hB m c ⟨0, hn⟩) (aH m c) (0 % 12) (0 / 12) (by omega) (by omega) (fun y i j hi hj => hB_apply m c ⟨0, hn⟩ y i j hi hj) r.val r.isLt l
      (by intro k; have := k.isLt; have := r.isLt; omega) b
    rw [show hm m c 0 hn = _ from hm_reset m c ⟨0, hn⟩ rfl, pay29_apply, pay25_apply, e]
    exact and_congr_right' (forall_congr' fun i => forall_congr' fun j => by rw [Nat.zero_mod, Nat.le_zero])
  | succ n ih =>
    intro hn r l b
    have h84 := lt ⟨n + 1, hn⟩
    simp only at h84
    have e := blk_le (hB m c ⟨n + 1, hn⟩) (aH m c) ((n + 1) % 12) ((n + 1) / 12) (by omega) (by omega) (fun y i j hi hj => hB_apply m c ⟨n + 1, hn⟩ y i j hi hj)
      r.val r.isLt l (by intro k; have := k.isLt; have := r.isLt; omega) b
    by_cases h0 : (n + 1) % 12 = 0
    · rw [show hm m c (n + 1) hn = _ from hm_reset m c ⟨n + 1, hn⟩ h0, pay29_apply, pay25_apply, e]
      exact and_congr_right' (forall_congr' fun i => forall_congr' fun j => by rw [h0, Nat.le_zero])
    · rw [show hm m c (n + 1) hn = _ from hm_step m c ⟨n + 1, hn⟩ h0, pay29_apply, e]
      have ih' := ih (Nat.lt_of_succ_lt hn) r l b
      rw [show hm m c ((⟨n + 1, hn⟩ : Fin cfg0.N).val - 1) _ (ix2 r l) = hm m c n (Nat.lt_of_succ_lt hn) (ix2 r l) from rfl, ih', and_assoc]
      refine and_congr_right' ⟨?_, ?_⟩
      · rintro ⟨h1, h2⟩ i j hi h8 hj
        by_cases hc : i.val / 512 = (n + 1) % 12
        · exact h2 i j hc h8 hj
        · exact h1 i j (by omega) h8 (by omega)
      · intro H
        exact ⟨fun i j hi h8 hj => H i j (by omega) h8 (by omega), fun i j hi h8 hj => H i j (by omega) h8 hj⟩

/-- What bounds a gradient scratch after every point: zero and the absolute gradients of all blocks seen so far. -/
theorem gm_le : ∀ (n : ℕ) (hn : n < cfg0.N) (r : Fin 8) (l : Fin 128) (b : EReal), gm m c n hn (ix2 r l) ≤ b ↔ 0 ≤ b
    ∧ ∀ (i : Fin 6144) (j : Fin 3584), j.val / 512 * 12 + i.val / 512 ≤ n → i.val % 8 = r.val → j.val % 128 = l.val → Cert.Max.abs (aDG m c i j) ≤ b := by
  intro n
  induction n with
  | zero =>
    intro hn r l b
    rw [show gm m c 0 hn = _ from gm_reset m c ⟨0, hn⟩ rfl, pay30_le _ (aDG m c) 0 (by omega) (fun y i j hi hj => dgB_apply m c ⟨0, hn⟩ y i j hi hj),
      pay26_apply]
    exact and_congr_right' (forall_congr' fun i => forall_congr' fun j => by rw [Nat.le_zero])
  | succ n ih =>
    intro hn r l b
    have h84 := lt ⟨n + 1, hn⟩
    simp only at h84
    rw [show gm m c (n + 1) hn = _ from gm_step m c ⟨n + 1, hn⟩ (by simp only; omega),
      pay30_le _ (aDG m c) (n + 1) h84 (fun y i j hi hj => dgB_apply m c ⟨n + 1, hn⟩ y i j hi hj)]
    have ih' := ih (Nat.lt_of_succ_lt hn) r l b
    rw [show gm m c ((⟨n + 1, hn⟩ : Fin cfg0.N).val - 1) _ (ix2 r l) = gm m c n (Nat.lt_of_succ_lt hn) (ix2 r l) from rfl, ih', and_assoc]
    refine and_congr_right' ⟨?_, ?_⟩
    · rintro ⟨h1, h2⟩ i j hi h8 hj
      by_cases hc : j.val / 512 * 12 + i.val / 512 = n + 1
      · exact h2 i j hc h8 hj
      · exact h1 i j (by omega) h8 hj
    · intro H
      exact ⟨fun i j hi h8 hj => H i j (by omega) h8 hj, fun i j hi h8 hj => H i j (by omega) h8 hj⟩

/-- What bounds a gradient scratch after every point: zero and the absolute gradients of all blocks seen so far. -/
theorem um_le : ∀ (n : ℕ) (hn : n < cfg0.N) (r : Fin 8) (l : Fin 128) (b : EReal), um m c n hn (ix2 r l) ≤ b ↔ 0 ≤ b
    ∧ ∀ (i : Fin 6144) (j : Fin 3584), j.val / 512 * 12 + i.val / 512 ≤ n → i.val % 8 = r.val → j.val % 128 = l.val → Cert.Max.abs (aDU m c i j) ≤ b := by
  intro n
  induction n with
  | zero =>
    intro hn r l b
    rw [show um m c 0 hn = _ from um_reset m c ⟨0, hn⟩ rfl, pay31_le _ (aDU m c) 0 (by omega) (fun y i j hi hj => duB_apply m c ⟨0, hn⟩ y i j hi hj),
      pay27_apply]
    exact and_congr_right' (forall_congr' fun i => forall_congr' fun j => by rw [Nat.le_zero])
  | succ n ih =>
    intro hn r l b
    have h84 := lt ⟨n + 1, hn⟩
    simp only at h84
    rw [show um m c (n + 1) hn = _ from um_step m c ⟨n + 1, hn⟩ (by simp only; omega),
      pay31_le _ (aDU m c) (n + 1) h84 (fun y i j hi hj => duB_apply m c ⟨n + 1, hn⟩ y i j hi hj)]
    have ih' := ih (Nat.lt_of_succ_lt hn) r l b
    rw [show um m c ((⟨n + 1, hn⟩ : Fin cfg0.N).val - 1) _ (ix2 r l) = um m c n (Nat.lt_of_succ_lt hn) (ix2 r l) from rfl, ih', and_assoc]
    refine and_congr_right' ⟨?_, ?_⟩
    · rintro ⟨h1, h2⟩ i j hi h8 hj
      by_cases hc : j.val / 512 * 12 + i.val / 512 = n + 1
      · exact h2 i j hc h8 hj
      · exact h1 i j (by omega) h8 hj
    · intro H
      exact ⟨fun i j hi h8 hj => H i j (by omega) h8 hj, fun i j hi h8 hj => H i j (by omega) h8 hj⟩

/-- What bounds the maximum of eight rows. -/
theorem pay3_le (v : FVec Ideal S8x512 .f32) (y : S1x512.Idx) (b : EReal) :
    k0_pay3 (F := Ideal) v y ≤ b ↔ ∀ r : Fin 8, v (ix2 r (y 1)) ≤ b := by
  pointwise [k0_pay3]
  exact Cert.Max.fold_le _ _
/-- What bounds the maximum of the gate-gradient scratch. -/
theorem pay1_le (v : FVec Ideal S8x128 .f32) (b : EReal) : k0_pay1 (F := Ideal) v ≤ b ↔ ∀ (r : Fin 8) (l : Fin 128), v (ix2 r l) ≤ b := by
  pointwise [k0_pay1]
  exact (Cert.Max.fold_le _ _).trans Prod.forall
/-- What bounds the maximum of the up-gradient scratch. -/
theorem pay2_le (v : FVec Ideal S8x128 .f32) (b : EReal) : k0_pay2 (F := Ideal) v ≤ b ↔ ∀ (r : Fin 8) (l : Fin 128), v (ix2 r l) ≤ b := by
  pointwise [k0_pay2]
  exact (Cert.Max.fold_le _ _).trans Prod.forall

/-- The columns' maxima at the last point of a column block. -/
theorem pay3_hm (t : Fin cfg0.N) (h : t.val % 12 = 11) (y : S1x512.Idx) (j : Fin 3584) (hj : j.val = 512 * (t.val / 12) + (y 1).val) :
    k0_pay3 (F := Ideal) (hm m c t.val t.isLt) y = Cert.Max.colmax (aH m c) j := by
  refine Cert.Max.eq_of_le_iff fun b => ?_
  rw [pay3_le, Cert.Max.colmax_le]
  constructor
  · intro H i
    have hi := i.isLt
    exact ((hm_le m c t.val t.isLt ⟨i.val % 8, by omega⟩ (y 1) b).mp (H _)).2 i j (by omega) rfl hj
  · intro H r
    refine (hm_le m c t.val t.isLt r (y 1) b).mpr ⟨(Cert.Max.abs_nonneg _).trans (H ⟨0, by omega⟩), fun i j' _ _ hj' => ?_⟩
    rw [show j' = j from Fin.ext (hj'.trans hj.symm)]
    exact H i

/-- The largest absolute gradient at the last point. -/
theorem pay1_gm (t : Fin cfg0.N) (h : t.val % 84 = 83) :
    k0_pay1 (F := Ideal) (gm m c t.val t.isLt) = Cert.Max.amax (aDG m c) := by
  have h84 := lt t
  refine Cert.Max.eq_of_le_iff fun b => ?_
  rw [pay1_le, Cert.Max.amax_le]
  constructor
  · intro H i j
    have hi := i.isLt
    have hj := j.isLt
    exact ((gm_le m c t.val t.isLt ⟨i.val % 8, by omega⟩ ⟨j.val % 128, by omega⟩ b).mp (H _ _)).2 i j (by omega) rfl rfl
  · intro H r l
    exact (gm_le m c t.val t.isLt r l b).mpr ⟨(Cert.Max.abs_nonneg _).trans (H ⟨0, by omega⟩ ⟨0, by omega⟩), fun i j _ _ _ => H i j⟩

/-- The largest absolute gradient at the last point. -/
theorem pay2_um (t : Fin cfg0.N) (h : t.val % 84 = 83) :
    k0_pay2 (F := Ideal) (um m c t.val t.isLt) = Cert.Max.amax (aDU m c) := by
  have h84 := lt t
  refine Cert.Max.eq_of_le_iff fun b => ?_
  rw [pay2_le, Cert.Max.amax_le]
  constructor
  · intro H i j
    have hi := i.isLt
    have hj := j.isLt
    exact ((um_le m c t.val t.isLt ⟨i.val % 8, by omega⟩ ⟨j.val % 128, by omega⟩ b).mp (H _ _)).2 i j (by omega) rfl rfl
  · intro H r l
    exact (um_le m c t.val t.isLt r l b).mpr ⟨(Cert.Max.abs_nonneg _).trans (H ⟨0, by omega⟩ ⟨0, by omega⟩), fun i j _ _ _ => H i j⟩

end Cert.MidIdeal.Val
end
-- ==== Proof.MidScale.lean ====
module

public import proofs.«01_k».proof.Proof.Gen.MidIdeal.Skeleton
public import proofs.«01_k».proof.Proof.Gen.MidRefIdeal.Skeleton
public import proofs.«01_k».proof.Proof.Pow2
public import Idealize.ShloMosaic.Lib.Pipeline.ValueKit

@[expose] public section

set_option maxRecDepth 16384

noncomputable section

open Idealize.ShloMosaic

/-! The next scale of every column: the kernel's bisection and the reference's logarithm give the same power of two. -/

namespace Cert.MidScale
open Cert.MidIdeal Cert.MidIdeal.Gen
open Cert.Pow2 (stepM stepE startM startE ofExp)

/-- One bisection step on the number, and on the exponent, of every column. -/
def vM (p k : BitVec 32) (m : FVec Ideal S1x512 .f32) : FVec Ideal S1x512 .f32 :=
  select (cmpf .oge m (broadcast S1x512 (Scalar.ofBits .f32 p))) (mulf m (broadcast S1x512 (Scalar.ofBits .f32 k))) m
/-- One bisection step on the exponent of every column. -/
def vE (p s : BitVec 32) (m : FVec Ideal S1x512 .f32) (e : IVec S1x512 32) : IVec S1x512 32 :=
  select (cmpf .oge m (broadcast S1x512 (Scalar.ofBits .f32 p))) (addi e (broadcast S1x512 s)) e
/-- The power of two with the exponent found, or one where the column is small. -/
def vout (w : FVec Ideal S1x512 .f32) (e : IVec S1x512 32) : FVec Ideal S1x512 .f32 :=
  bitcastToFloat .f32 (shli (addi (select (cmpf .olt w (broadcast S1x512 (Scalar.ofBits .f32 0x3C000000#32))) (broadcast S1x512 0#32) (subi e (broadcast S1x512 126#32))) (broadcast S1x512 127#32)) (broadcast S1x512 23#32))
/-- The numbers and exponents the bisection starts from. -/
def vM0 (a : FVec Ideal S1x512 .f32) : FVec Ideal S1x512 .f32 :=
  select (cmpf .olt a (broadcast S1x512 (Scalar.ofBits .f32 0x3F800000#32))) (mulf a (broadcast S1x512 (Scalar.ofBits .f32 0x47800000#32))) a
/-- The exponents the bisection starts from. -/
def vE0 (a : FVec Ideal S1x512 .f32) : IVec S1x512 32 :=
  select (cmpf .olt a (broadcast S1x512 (Scalar.ofBits .f32 0x3F800000#32))) (broadcast S1x512 111#32) (broadcast S1x512 127#32)

/-- The numbers bisected: the columns' maxima times `1/448`. -/
theorem v4 (v : FVec Ideal S8x512 .f32) : k0_pay4 (F := Ideal) v = mulf (k0_pay3 (F := Ideal) v) (broadcast S1x512 (Scalar.ofBits .f32 0x3B124925#32)) := rfl
/-- The numbers the bisection starts from. -/
theorem v5 (v : FVec Ideal S8x512 .f32) : k0_pay5 (F := Ideal) v = vM0 (k0_pay4 (F := Ideal) v) := rfl
/-- The first step. -/
theorem v7 (v : FVec Ideal S8x512 .f32) : k0_pay7 (F := Ideal) v = vM 0x5F800000#32 0x1F800000#32 (k0_pay5 (F := Ideal) v) := rfl
/-- The second step. -/
theorem v9 (v : FVec Ideal S8x512 .f32) : k0_pay9 (F := Ideal) v = vM 0x4F800000#32 0x2F800000#32 (k0_pay7 (F := Ideal) v) := rfl
/-- The third step. -/
theorem v12 (v : FVec Ideal S8x512 .f32) : select (k0_pay10 (F := Ideal) v) (k0_pay12 (F := Ideal) v) (k0_pay9 (F := Ideal) v) = vM 0x47800000#32 0x37800000#32 (k0_pay9 (F := Ideal) v) := rfl
/-- The exponents after three steps. -/
theorem v11 (v : FVec Ideal S8x512 .f32) : k0_pay11 (F := Ideal) v = vE 0x47800000#32 16#32 (k0_pay9 (F := Ideal) v) (vE 0x4F800000#32 32#32 (k0_pay7 (F := Ideal) v) (vE 0x5F800000#32 64#32 (k0_pay5 (F := Ideal) v) (vE0 (k0_pay4 (F := Ideal) v)))) := rfl
/-- The last four steps and the power of two. -/
theorem v13 (w m : FVec Ideal S1x512 .f32) (b : IVec S1x512 1) (e : IVec S1x512 32) (m' : FVec Ideal S1x512 .f32) :
    k0_pay13 (F := Ideal) w m b e m' = vout w (vE 0x40000000#32 1#32 (vM 0x40800000#32 0x3E800000#32 (vM 0x41800000#32 0x3D800000#32 (vM 0x43800000#32 0x3B800000#32 (select b m' m))))
      (vE 0x40800000#32 2#32 (vM 0x41800000#32 0x3D800000#32 (vM 0x43800000#32 0x3B800000#32 (select b m' m)))
        (vE 0x41800000#32 4#32 (vM 0x43800000#32 0x3B800000#32 (select b m' m)) (vE 0x43800000#32 8#32 (select b m' m) e)))) := rfl

/-- A step on the number, at a column. -/
theorem vM_apply (p k : BitVec 32) (m : FVec Ideal S1x512 .f32) (y : S1x512.Idx) :
    vM p k m y = stepM (Ideal.ofBits .f32 p) (Ideal.ofBits .f32 k) (m y) := by
  pointwise [vM, stepM]
/-- A step on the exponent, at a column. -/
theorem vE_apply (p s : BitVec 32) (m : FVec Ideal S1x512 .f32) (e : IVec S1x512 32) (y : S1x512.Idx) :
    vE p s m e y = stepE (Ideal.ofBits .f32 p) s (m y) (e y) := by
  pointwise [vE, stepE]
/-- The starting number, at a column. -/
theorem vM0_apply (a : FVec Ideal S1x512 .f32) (y : S1x512.Idx) : vM0 a y = startM (a y) := by
  pointwise [vM0, startM]
/-- The starting exponent, at a column. -/
theorem vE0_apply (a : FVec Ideal S1x512 .f32) (y : S1x512.Idx) : vE0 a y = startE (a y) := by
  pointwise [vE0, startE]
/-- The power of two, at a column. -/
theorem vout_apply (w : FVec Ideal S1x512 .f32) (e : IVec S1x512 32) (y : S1x512.Idx) : vout w e y = ofExp (w y) (e y) := by
  pointwise [vout, ofExp]
/-- The product with a constant, at a column. -/
theorem mul_apply (w : FVec Ideal S1x512 .f32) (k : BitVec 32) (y : S1x512.Idx) :
    mulf w (broadcast S1x512 (Scalar.ofBits .f32 k)) y = w y * Ideal.ofBits .f32 k := by
  pointwise []

/-- What the kernel's last points write as the next scales: `Cert.Pow2.scale` of the column's maximum. -/
theorem kernel_apply (v : FVec Ideal S8x512 .f32) (y : S1x512.Idx) :
    k0_pay13 (F := Ideal) (k0_pay3 (F := Ideal) v) (k0_pay9 (F := Ideal) v) (k0_pay10 (F := Ideal) v) (k0_pay11 (F := Ideal) v)
      (k0_pay12 (F := Ideal) v) y = Cert.Pow2.scale (k0_pay3 (F := Ideal) v y) := by
  rw [← Cert.Pow2.kernelScale_eq, v13, v12, v11, v9, v7, v5, v4]
  generalize k0_pay3 (F := Ideal) v = w
  simp only [vout_apply, vE_apply, vM_apply, vM0_apply, vE0_apply, mul_apply]
  rfl

/-- The reference's next scales from the columns' maxima. -/
def vcn (w : FVec Ideal Cert.MidRefIdeal.S1x3584 .f32) : FVec Ideal Cert.MidRefIdeal.S1x3584 .f32 :=
  select (cmpf .olt w (broadcast _ (Scalar.ofBits .f32 0x3C000000#32))) (broadcast _ (Scalar.ofBits .f32 0x3F800000#32)) (select (cmpf .oge (mulf w (broadcast _ (Scalar.ofBits .f32 0x3B124925#32))) (broadcast _ (Scalar.ofBits .f32 0x7F000000#32))) (broadcast _ (Scalar.ofBits .f32 0x7F800000#32)) (exp2 (addf (floor (divf (log (mulf w (broadcast _ (Scalar.ofBits .f32 0x3B124925#32)))) (broadcast _ (Scalar.log (Scalar.ofBits .f32 0x40000000#32))))) (broadcast _ (Scalar.ofBits .f32 0x3F800000#32)))))

/-- The reference's next scales are `vcn` of its maxima. -/
theorem ref_pay9 (v : FVec Ideal Cert.MidRefIdeal.S6144x3584 .f32) :
    Cert.MidRefIdeal.Gen.k0_pay9 (F := Ideal) v = vcn (Cert.MidRefIdeal.Gen.k0_pay8 (F := Ideal) v) := rfl

/-- The reference's next scale is `Cert.Pow2.scale` of the column's maximum. -/
theorem vcn_apply (w : FVec Ideal Cert.MidRefIdeal.S1x3584 .f32) (y : Cert.MidRefIdeal.S1x3584.Idx) : vcn w y = Cert.Pow2.scale (w y) := by
  pointwise [vcn, Cert.Pow2.scale]
  rfl

end Cert.MidScale
end
-- ==== Proof.MidAt.lean ====
module

public import proofs.«01_k».proof.Proof.MidSpec
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.MidIdeal.Val
open Cert.MidIdeal Cert.MidIdeal.Gen

/-- The results at a place whose coordinates are known. -/
theorem colcodes_at (f : Fin 6144 → Fin 3584 → EReal) (s : FVec Ideal S3584 .f32) (e : S6144x3584.Idx) (i : Fin 6144) (j : Fin 3584)
    (hi : (e 0).val = i.val) (hj : (e 1).val = j.val) :
    code 0xC3E00000#32 0x43E00000#32 (f i j) (s (ix1 j)) = colcodes f s e := by
  obtain rfl : e 0 = i := Fin.ext hi
  obtain rfl : e 1 = j := Fin.ext hj
  rfl
/-- A gradient's code at a place whose coordinates are known. -/
theorem codes_at (f : Fin 6144 → Fin 3584 → EReal) (s : FVec Ideal S_ .f32) (e : S6144x3584.Idx) (i : Fin 6144) (j : Fin 3584)
    (hi : (e 0).val = i.val) (hj : (e 1).val = j.val) :
    code 0xC7600000#32 0x47600000#32 (f i j) (s ix0) = codes f s e := by
  obtain rfl : e 0 = i := Fin.ext hi
  obtain rfl : e 1 = j := Fin.ext hj
  rfl
/-- A column's maximum at a place whose column is known. -/
theorem colmaxs_at (f : Fin 6144 → Fin 3584 → EReal) (e : S1x3584.Idx) (j : Fin 3584) (hj : (e 1).val = j.val) :
    Cert.Max.colmax f j = colmaxs f e := by
  obtain rfl : e 1 = j := Fin.ext hj
  rfl
/-- A column's next scale at a place whose column is known. -/
theorem scales_at (f : Fin 6144 → Fin 3584 → EReal) (e : S1x3584.Idx) (j : Fin 3584) (hj : (e 1).val = j.val) :
    Cert.Pow2.scale (Cert.Max.colmax f j) = scales f e := by
  obtain rfl : e 1 = j := Fin.ext hj
  rfl

end Cert.MidIdeal.Val
end
-- ==== Proof.MidFinal.lean ====
module

public import proofs.«01_k».proof.Proof.MidMax
public import proofs.«01_k».proof.Proof.MidScale
public import proofs.«01_k».proof.Proof.MidAt
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

/-! What the fused call's arrays hold after the run. -/

namespace Cert.MidIdeal.Val
open Cert.MidIdeal Cert.MidIdeal.Gen

variable (m : (ℓ : Loc nD τ sig) → Buf (Elt Ideal) ℓ) (c : Dev nD)

/-- The codes of one block from the numbers it is made of. -/
theorem pay19_apply (x : FVec Ideal S512x8192 .fp8e4m3) (w : FVec Ideal S8192x512 .fp8e4m3) (a : EReal) (w' : FVec Ideal S8192x512 .fp8e4m3) (a' : EReal)
    (s : FVec Ideal S1x512 .f32) (y : S512x512.Idx) (h : EReal) (hh : k0_pay18 (F := Ideal) x w a w' a' y = h) :
    k0_pay19 (F := Ideal) x w a w' a' s y = code 0xC3E00000#32 0x43E00000#32 h (s (ix2 0 (y 1))) := by
  subst hh
  unfold k0_pay19
  generalize k0_pay18 (F := Ideal) x w a w' a' = v
  pointwise [code, k0_pay16]
/-- A gate gradient's code. -/
theorem pay23_apply (g u s d : FVec Ideal S512x512 .f32) (k : EReal) (y : S512x512.Idx) (h : EReal)
    (hh : k0_pay21 (F := Ideal) g u s d y = h) : k0_pay23 (F := Ideal) g u s d k y = code 0xC7600000#32 0x47600000#32 h k := by
  subst hh
  unfold k0_pay23
  generalize k0_pay21 (F := Ideal) g u s d = v
  pointwise [code]
/-- An up gradient's code. -/
theorem pay24_apply (g s d : FVec Ideal S512x512 .f32) (k : EReal) (y : S512x512.Idx) (h : EReal)
    (hh : k0_pay22 (F := Ideal) g s d y = h) : k0_pay24 (F := Ideal) g s d k y = code 0xC7600000#32 0x47600000#32 h k := by
  subst hh
  unfold k0_pay24
  generalize k0_pay22 (F := Ideal) g s d = v
  pointwise [code]

/-- The block of column scales. -/
theorem c_apply (t : Fin cfg0.N) (y : S512x512.Idx) (j : Fin 3584) (hj : j.val = 512 * (t.val / 12) + (y 1).val) :
    (iblk m c 10 t : FVec Ideal S1x512 .f32) (ix2 0 (y 1)) = (m ((c : Thread nD τ).loc main_arg5) : FVec Ideal S3584 .f32) (ix1 j) := by
  blk_point [iblk, V, idx t]

/-- The codes of the hidden values. -/
theorem final11 : (dats m 0 c).arrAt 11 (cfgs 0).N = colcodes (aH m c) (m ((c : Thread nD τ).loc main_arg5)) := by
  refine (dats m 0 c).arrAt_eq_of_covers 11 _ (by decide +kernel) fun t hf y => ?_
  blk_simp
  rw [after0_11]
  rw [out11]
  have h84 := lt t
  have y0 : (y 0).val < 512 := (y 0).isLt
  have y1 : (y 1).val < 512 := (y 1).isLt
  refine (pay19_apply _ _ _ _ _ _ y _ (hB_apply m c t y ⟨512 * (t.val % 12) + (y 0).val, by omega⟩ ⟨512 * (t.val / 12) + (y 1).val, by omega⟩ rfl rfl)).trans ?_
  refine (congrArg _ (c_apply m c t y ⟨512 * (t.val / 12) + (y 1).val, by omega⟩ rfl)).trans ?_
  refine colcodes_at _ _ _ _ _ ?_ ?_
  · blk_simp [idx t]
    show _ = 512 * (t.val % 12) + (y 0).val
    omega
  · blk_simp [idx t]
    show _ = 512 * (t.val / 12) + (y 1).val
    omega

/-- The codes of the gradients. -/
theorem final12 : (dats m 0 c).arrAt 12 (cfgs 0).N = codes (aDG m c) (m ((c : Thread nD τ).loc main_arg11)) := by
  refine (dats m 0 c).arrAt_eq_of_covers 12 _ (by decide +kernel) fun t hf y => ?_
  blk_simp
  rw [after0_12]
  rw [out12]
  have h84 := lt t
  have y0 : (y 0).val < 512 := (y 0).isLt
  have y1 : (y 1).val < 512 := (y 1).isLt
  refine (pay23_apply _ _ _ _ _ y _ (dgB_apply m c t y ⟨512 * (t.val % 12) + (y 0).val, by omega⟩ ⟨512 * (t.val / 12) + (y 1).val, by omega⟩ rfl rfl)).trans ?_
  refine (congrArg _ (sc3_eq m c t)).trans ?_
  refine codes_at _ _ _ _ _ ?_ ?_
  · blk_simp [idx t]
    show _ = 512 * (t.val % 12) + (y 0).val
    omega
  · blk_simp [idx t]
    show _ = 512 * (t.val / 12) + (y 1).val
    omega

/-- The codes of the gradients. -/
theorem final13 : (dats m 0 c).arrAt 13 (cfgs 0).N = codes (aDU m c) (m ((c : Thread nD τ).loc main_arg12)) := by
  refine (dats m 0 c).arrAt_eq_of_covers 13 _ (by decide +kernel) fun t hf y => ?_
  blk_simp
  rw [after0_13]
  rw [out13]
  have h84 := lt t
  have y0 : (y 0).val < 512 := (y 0).isLt
  have y1 : (y 1).val < 512 := (y 1).isLt
  refine (pay24_apply _ _ _ _ y _ (duB_apply m c t y ⟨512 * (t.val % 12) + (y 0).val, by omega⟩ ⟨512 * (t.val / 12) + (y 1).val, by omega⟩ rfl rfl)).trans ?_
  refine (congrArg _ (sc4_eq m c t)).trans ?_
  refine codes_at _ _ _ _ _ ?_ ?_
  · blk_simp [idx t]
    show _ = 512 * (t.val % 12) + (y 0).val
    omega
  · blk_simp [idx t]
    show _ = 512 * (t.val / 12) + (y 1).val
    omega

/-- The points that write a column block's results back, and the one that writes the whole call's. -/
theorem flush14 : ∀ t : Fin cfg0.N, (cfg0.win 14).flush t = true → t.val % 12 = 11 := (by decide +kernel : ∀ t : Fin grid0.N, _)
/-- The next scales are written at a column block's last point. -/
theorem flush15 : ∀ t : Fin cfg0.N, (cfg0.win 15).flush t = true → t.val % 12 = 11 := (by decide +kernel : ∀ t : Fin grid0.N, _)
/-- The gate gradient's maximum is written at the last point. -/
theorem flush16 : ∀ t : Fin cfg0.N, (cfg0.win 16).flush t = true → t.val % 84 = 83 := (by decide +kernel : ∀ t : Fin grid0.N, _)
/-- The up gradient's maximum is written at the last point. -/
theorem flush17 : ∀ t : Fin cfg0.N, (cfg0.win 17).flush t = true → t.val % 84 = 83 := (by decide +kernel : ∀ t : Fin grid0.N, _)

/-- The columns' maxima. -/
theorem final14 : (dats m 0 c).arrAt 14 (cfgs 0).N = colmaxs (aH m c) := by
  refine (dats m 0 c).arrAt_eq_of_covers 14 _ (by decide +kernel) fun t hf y => ?_
  blk_simp
  rw [after0_14]
  rw [out14 m c t (flush14 t hf)]
  have h84 := lt t
  have y1 : (y 1).val < 512 := (y 1).isLt
  refine (pay3_hm m c t (flush14 t hf) y ⟨512 * (t.val / 12) + (y 1).val, by omega⟩ rfl).trans ?_
  refine colmaxs_at _ _ _ ?_
  blk_simp [idx t]
  show _ = 512 * (t.val / 12) + (y 1).val
  omega

/-- The next scales. -/
theorem final15 : (dats m 0 c).arrAt 15 (cfgs 0).N = scales (aH m c) := by
  refine (dats m 0 c).arrAt_eq_of_covers 15 _ (by decide +kernel) fun t hf y => ?_
  blk_simp
  rw [after0_15]
  rw [out15 m c t (flush15 t hf)]
  have h84 := lt t
  have y1 : (y 1).val < 512 := (y 1).isLt
  refine (Cert.MidScale.kernel_apply _ y).trans ?_
  refine (congrArg _ (pay3_hm m c t (flush15 t hf) y ⟨512 * (t.val / 12) + (y 1).val, by omega⟩ rfl)).trans ?_
  refine scales_at _ _ _ ?_
  blk_simp [idx t]
  show _ = 512 * (t.val / 12) + (y 1).val
  omega

/-- The largest gate gradient. -/
theorem final16 : (dats m 0 c).arrAt 16 (cfgs 0).N = amaxs (aDG m c) := by
  refine (dats m 0 c).arrAt_eq_of_covers 16 _ (by decide +kernel) fun t hf y => ?_
  blk_simp
  rw [after0_16]
  rw [out16 m c t (flush16 t hf)]
  exact pay1_gm m c t (flush16 t hf)

/-- The largest up gradient. -/
theorem final17 : (dats m 0 c).arrAt 17 (cfgs 0).N = amaxs (aDU m c) := by
  refine (dats m 0 c).arrAt_eq_of_covers 17 _ (by decide +kernel) fun t hf y => ?_
  blk_simp
  rw [after0_17]
  rw [out17 m c t (flush17 t hf)]
  exact pay2_um m c t (flush17 t hf)

end Cert.MidIdeal.Val
end
-- ==== Proof.MidRefRun.lean ====
module

public import proofs.«01_k».proof.Proof.Gen.MidRefIdeal.Frame
public import Idealize.ShloMosaic.Lib.Pipeline.Value

@[expose] public section

noncomputable section

/-! The run of the fused call's reference: every result array named, every argument unchanged. -/

namespace Cert.MidRefIdeal.Run

open Cert.MidRefIdeal Cert.MidRefIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v8_0) = (dats m 0 c).arrAt 13 cfg0.N :=
  (h c).1 13

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v8_1) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v8_2) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v8_3) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v8_4) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v8_5) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v8_6) = (dats m 0 c).arrAt 19 cfg0.N :=
  (h c).1 19

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- The frame run with each output array after the run NAMED — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v8_0) = (dats m 0 c).arrAt 13 cfg0.N
      ∧ r.2.mem ((c : Thread nD τ).loc main_v8_1) = (dats m 0 c).arrAt 14 cfg0.N
      ∧ r.2.mem ((c : Thread nD τ).loc main_v8_2) = (dats m 0 c).arrAt 15 cfg0.N
      ∧ r.2.mem ((c : Thread nD τ).loc main_v8_3) = (dats m 0 c).arrAt 16 cfg0.N
      ∧ r.2.mem ((c : Thread nD τ).loc main_v8_4) = (dats m 0 c).arrAt 17 cfg0.N
      ∧ r.2.mem ((c : Thread nD τ).loc main_v8_5) = (dats m 0 c).arrAt 18 cfg0.N
      ∧ r.2.mem ((c : Thread nD τ).loc main_v8_6) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12) :=
  (θ_run defs _ _).mono (fun r h c => ⟨post13 m r h c,
      post14 m r h c,
      post15 m r h c,
      post16 m r h c,
      post17 m r h c,
      post18 m r h c,
      post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c⟩)
    (run_main m ρ)

end Cert.MidRefIdeal.Run
end
-- ==== Proof.MidRefValue.lean ====
module

public import proofs.«01_k».proof.Proof.MidRefRun
public import proofs.«01_k».proof.Proof.MidSpec
public import proofs.«01_k».proof.Proof.MidScale
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.MidRefIdeal.Val
open Cert.MidRefIdeal Cert.MidRefIdeal.Gen

/-- The reference's one grid point sees whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0]
    ∧ win0_8.index t = ![0, 0]
    ∧ win0_9.index t = ![0, 0]
    ∧ win0_10.index t = ![0, 0]
    ∧ win0_11.index t = ![0, 0]
    ∧ win0_12.index t = ![0, 0]
    ∧ win0_13.index t = ![0, 0]
    ∧ win0_14.index t = ![0, 0]
    ∧ win0_15.index t = ![0, 0]
    ∧ win0_16.index t = ![0, 0]
    ∧ win0_17.index t = ![0, 0]
    ∧ win0_18.index t = ![0, 0]
    ∧ win0_19.index t = ![0, 0] :=
  (by decide +kernel : ∀ t : Fin grid0.N, _)

variable (m : (ℓ : Loc nD τ sig) → Buf (Elt Ideal) ℓ) (c : Dev nD)

/-- The gates. -/
theorem g_apply (t : Fin cfg0.N) (i : Fin 6144) (j : Fin 3584) : k0_pay18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j)
    = Cert.MidIdeal.Val.prod (m ((c : Thread nD τ).loc main_arg0)) (m ((c : Thread nD τ).loc main_arg2)) (m ((c : Thread nD τ).loc main_arg6)) (m ((c : Thread nD τ).loc main_arg7)) i j := by
  pointwise [k0_pay18, k0_pay2, Cert.MidIdeal.Val.prod]
  blk_point [iblk, V, idx t]

/-- The ups. -/
theorem u_apply (t : Fin cfg0.N) (i : Fin 6144) (j : Fin 3584) : k0_pay19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j)
    = Cert.MidIdeal.Val.prod (m ((c : Thread nD τ).loc main_arg0)) (m ((c : Thread nD τ).loc main_arg3)) (m ((c : Thread nD τ).loc main_arg6)) (m ((c : Thread nD τ).loc main_arg8)) i j := by
  pointwise [k0_pay19, k0_pay3, Cert.MidIdeal.Val.prod]
  blk_point [iblk, V, idx t]

/-- The hidden gradients. -/
theorem d_apply (t : Fin cfg0.N) (i : Fin 6144) (j : Fin 3584) : k0_pay22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j)
    = Cert.MidIdeal.Val.DH (m ((c : Thread nD τ).loc main_arg1)) (m ((c : Thread nD τ).loc main_arg4)) (m ((c : Thread nD τ).loc main_arg5)) (m ((c : Thread nD τ).loc main_arg9)) (m ((c : Thread nD τ).loc main_arg10)) i j := by
  pointwise [k0_pay22, k0_pay10, Cert.MidIdeal.Val.DH]
  blk_point [iblk, V, idx t]

/-- The sigmoids. -/
theorem s_apply (t : Fin cfg0.N) (i : Fin 6144) (j : Fin 3584) : k0_pay20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j)
    = Ideal.logistic (Cert.MidIdeal.Val.prod (m ((c : Thread nD τ).loc main_arg0)) (m ((c : Thread nD τ).loc main_arg2)) (m ((c : Thread nD τ).loc main_arg6)) (m ((c : Thread nD τ).loc main_arg7)) i j) :=
  congrArg Ideal.logistic (g_apply m c t i j)

/-- The hidden values from their parts. -/
theorem pay5_apply (x : FVec Ideal S6144x8192 .fp8e4m3) (w : FVec Ideal S8192x3584 .fp8e4m3) (a b : FVec Ideal S1x1 .f32) (x' : FVec Ideal S6144x8192 .fp8e4m3) (w' : FVec Ideal S8192x3584 .fp8e4m3) (a' b' : FVec Ideal S1x1 .f32) (y : S6144x3584.Idx) :
    k0_pay5 (F := Ideal) x w a b x' w' a' b' y = Cert.MidIdeal.Val.hid (k0_pay2 (F := Ideal) x w a b y) (k0_pay3 (F := Ideal) x' w' a' b' y) := rfl
/-- The absolute hidden values. -/
theorem pay7_apply (x : FVec Ideal S6144x8192 .fp8e4m3) (w : FVec Ideal S8192x3584 .fp8e4m3) (a b : FVec Ideal S1x1 .f32) (x' : FVec Ideal S6144x8192 .fp8e4m3) (w' : FVec Ideal S8192x3584 .fp8e4m3) (a' b' : FVec Ideal S1x1 .f32) (y : S6144x3584.Idx) :
    k0_pay7 (F := Ideal) x w a b x' w' a' b' y = Cert.Max.abs (k0_pay5 (F := Ideal) x w a b x' w' a' b' y) := rfl

/-- The absolute hidden values. -/
theorem a_apply (t : Fin cfg0.N) (i : Fin 6144) (j : Fin 3584) : k0_pay21 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (ix2 i j) = Cert.Max.abs (Cert.MidIdeal.Val.H (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) i j) := by
  unfold Cert.MidIdeal.Val.H k0_pay21
  exact (pay7_apply _ _ _ _ _ _ _ _ _).trans (congrArg Cert.Max.abs ((pay5_apply _ _ _ _ _ _ _ _ _).trans (congrArg₂ Cert.MidIdeal.Val.hid (g_apply m c t i j) (u_apply m c t i j))))

/-- The gradients from their parts. -/
theorem pay11_apply (g u s d : FVec Ideal S6144x3584 .f32) (y : S6144x3584.Idx) (g' u' d' : EReal) (hg : g y = g') (hu : u y = u')
    (hs : s y = Ideal.logistic g') (hd : d y = d') : k0_pay11 (F := Ideal) g u s d y = Cert.MidIdeal.Val.dgate g' u' d' := by
  subst hg hu hd
  pointwise [k0_pay11, Cert.MidIdeal.Val.dgate]
  rw [hs]
/-- An up gradient from its parts. -/
theorem pay12_apply (g s d : FVec Ideal S6144x3584 .f32) (y : S6144x3584.Idx) (g' d' : EReal) (hg : g y = g')
    (hs : s y = Ideal.logistic g') (hd : d y = d') : k0_pay12 (F := Ideal) g s d y = Cert.MidIdeal.Val.dup g' d' := by
  subst hg hd
  pointwise [k0_pay12, Cert.MidIdeal.Val.dup]
  rw [hs]

/-- The gradients of gate and up. -/
theorem dg_apply (t : Fin cfg0.N) (i : Fin 6144) (j : Fin 3584) : k0_pay11 (F := Ideal) (k0_pay18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay19 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 i j)
    = Cert.MidIdeal.Val.DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) i j := by
  unfold Cert.MidIdeal.Val.DG
  exact pay11_apply _ _ _ _ _ _ _ _ (g_apply m c t i j) (u_apply m c t i j) (s_apply m c t i j) (d_apply m c t i j)
/-- The gradients of up. -/
theorem du_apply (t : Fin cfg0.N) (i : Fin 6144) (j : Fin 3584) : k0_pay12 (F := Ideal) (k0_pay18 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay20 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (k0_pay22 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)) (ix2 i j)
    = Cert.MidIdeal.Val.DU (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) i j := by
  unfold Cert.MidIdeal.Val.DU
  exact pay12_apply _ _ _ _ _ _ (g_apply m c t i j) (s_apply m c t i j) (d_apply m c t i j)

/-- The columns' maxima of absolute values, and the largest absolute gradients. -/
theorem pay8_apply (v : FVec Ideal S6144x3584 .f32) (f : Fin 6144 → Fin 3584 → EReal) (hv : ∀ i j, v (ix2 i j) = Cert.Max.abs (f i j))
    (y : S1x3584.Idx) : k0_pay8 (F := Ideal) v y = Cert.Max.colmax f (y 1) := by
  pointwise [k0_pay8]
  refine Cert.Max.eq_of_le_iff fun b => ?_
  refine (Cert.Max.fold_le _ _).trans ((forall_congr' fun i => ?_).trans (Cert.Max.colmax_le f (y 1) b).symm)
  exact iff_of_eq (congrArg (· ≤ b) (hv i (y 1)))
/-- The largest absolute gate gradient. -/
theorem pay13_apply (g u s d : FVec Ideal S6144x3584 .f32) (f : Fin 6144 → Fin 3584 → EReal)
    (hv : ∀ i j, k0_pay11 (F := Ideal) g u s d (ix2 i j) = f i j) (y : S1x1.Idx) : k0_pay13 (F := Ideal) g u s d y = Cert.Max.amax f := by
  revert hv
  unfold k0_pay13
  generalize k0_pay11 (F := Ideal) g u s d = v
  intro hv
  pointwise []
  refine Cert.Max.eq_of_le_iff fun b => ?_
  rw [Cert.Max.fold_le, Cert.Max.amax_le]
  exact ⟨fun h i j => by rw [← hv]; exact h (i, j), fun h x => by have := h x.1 x.2; rw [← hv] at this; exact this⟩
/-- The largest absolute up gradient. -/
theorem pay15_apply (g s d : FVec Ideal S6144x3584 .f32) (f : Fin 6144 → Fin 3584 → EReal)
    (hv : ∀ i j, k0_pay12 (F := Ideal) g s d (ix2 i j) = f i j) (y : S1x1.Idx) : k0_pay15 (F := Ideal) g s d y = Cert.Max.amax f := by
  revert hv
  unfold k0_pay15
  generalize k0_pay12 (F := Ideal) g s d = v
  intro hv
  pointwise []
  refine Cert.Max.eq_of_le_iff fun b => ?_
  rw [Cert.Max.fold_le, Cert.Max.amax_le]
  exact ⟨fun h i j => by rw [← hv]; exact h (i, j), fun h x => by have := h x.1 x.2; rw [← hv] at this; exact this⟩

/-- The columns' maxima. -/
theorem final16 : (dats m 0 c).arrAt 16 (cfgs 0).N = Cert.MidIdeal.Val.colmaxs (Cert.MidIdeal.Val.H (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8))) := by
  refine (dats m 0 c).arrAt_eq_of_covers 16 _ (by decide +kernel) fun t hf y => ?_
  blk_simp
  rw [after0_16]
  frame_out
  refine (pay8_apply _ _ (fun i j => a_apply m c t i j) y).trans ?_
  pointwise [Cert.MidIdeal.Val.colmaxs]
  blk_point [iblk, V, idx t]

/-- The next scales. -/
theorem final17 : (dats m 0 c).arrAt 17 (cfgs 0).N = Cert.MidIdeal.Val.scales (Cert.MidIdeal.Val.H (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8))) := by
  refine (dats m 0 c).arrAt_eq_of_covers 17 _ (by decide +kernel) fun t hf y => ?_
  blk_simp
  rw [after0_17]
  frame_out
  rw [Cert.MidScale.ref_pay9, Cert.MidScale.vcn_apply]
  refine (congrArg Cert.Pow2.scale (pay8_apply _ _ (fun i j => a_apply m c t i j) y)).trans ?_
  pointwise [Cert.MidIdeal.Val.scales]
  blk_point [iblk, V, idx t]

/-- The largest gate gradient. -/
theorem final18 : (dats m 0 c).arrAt 18 (cfgs 0).N = Cert.MidIdeal.Val.amaxs (Cert.MidIdeal.Val.DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  refine (dats m 0 c).arrAt_eq_of_covers 18 _ (by decide +kernel) fun t hf y => ?_
  blk_simp
  rw [after0_18]
  frame_out
  exact pay13_apply _ _ _ _ _ (fun i j => dg_apply m c t i j) y

/-- The largest up gradient. -/
theorem final19 : (dats m 0 c).arrAt 19 (cfgs 0).N = Cert.MidIdeal.Val.amaxs (Cert.MidIdeal.Val.DU (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10))) := by
  refine (dats m 0 c).arrAt_eq_of_covers 19 _ (by decide +kernel) fun t hf y => ?_
  blk_simp
  rw [after0_19]
  frame_out
  exact pay15_apply _ _ _ _ (fun i j => du_apply m c t i j) y

end Cert.MidRefIdeal.Val
end
-- ==== Proof.MidRefCodes.lean ====
module

public import proofs.«01_k».proof.Proof.MidRefRun
public import proofs.«01_k».proof.Proof.MidRefValue
public import proofs.«01_k».proof.Proof.MidAt
public import proofs.«01_k».proof.Proof.MidScale
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.MidRefIdeal.Val
open Cert.MidRefIdeal Cert.MidRefIdeal.Gen

variable (m : (ℓ : Loc nD τ sig) → Buf (Elt Ideal) ℓ) (c : Dev nD)

/-- The codes of a matrix, and of one with a scale for every column, from the numbers it is made of. -/
theorem pay6_apply (x : FVec Ideal S6144x8192 .fp8e4m3) (w : FVec Ideal S8192x3584 .fp8e4m3) (a b : FVec Ideal S1x1 .f32) (x' : FVec Ideal S6144x8192 .fp8e4m3) (w' : FVec Ideal S8192x3584 .fp8e4m3) (a' b' : FVec Ideal S1x1 .f32)
    (s : FVec Ideal S1x3584 .f32) (y : S6144x3584.Idx) (h : EReal) (hh : k0_pay5 (F := Ideal) x w a b x' w' a' b' y = h) :
    k0_pay6 (F := Ideal) x w a b x' w' a' b' s y = Cert.MidIdeal.Val.code 0xC3E00000#32 0x43E00000#32 h (s (ix2 0 (y 1))) := by
  subst hh
  unfold k0_pay6
  generalize k0_pay5 (F := Ideal) x w a b x' w' a' b' = v
  pointwise [Cert.MidIdeal.Val.code]
/-- A gate gradient's code. -/
theorem pay14_apply (g u s d : FVec Ideal S6144x3584 .f32) (k : FVec Ideal S1x1 .f32) (y : S6144x3584.Idx) (h : EReal)
    (hh : k0_pay11 (F := Ideal) g u s d y = h) :
    k0_pay14 (F := Ideal) g u s d k y = Cert.MidIdeal.Val.code 0xC7600000#32 0x47600000#32 h (k (ix2 0 0)) := by
  subst hh
  unfold k0_pay14
  generalize k0_pay11 (F := Ideal) g u s d = v
  pointwise [Cert.MidIdeal.Val.code]
/-- An up gradient's code. -/
theorem pay1_apply (g s d : FVec Ideal S6144x3584 .f32) (k : FVec Ideal S1x1 .f32) (y : S6144x3584.Idx) (h : EReal)
    (hh : k0_pay12 (F := Ideal) g s d y = h) :
    k0_pay1 (F := Ideal) (k0_pay16 (F := Ideal) g s d k) (Scalar.ofBits .f32 0x47600000#32) (k0_pay17 (F := Ideal)) y
      = Cert.MidIdeal.Val.code 0xC7600000#32 0x47600000#32 h (k (ix2 0 0)) := by
  subst hh
  unfold k0_pay1 k0_pay16
  generalize k0_pay12 (F := Ideal) g s d = v
  pointwise [Cert.MidIdeal.Val.code, k0_pay17]
/-- An index of a matrix is the pair of its coordinates. -/
theorem eta (y : S6144x3584.Idx) : y = ix2 (y 0) (y 1) := by
  funext a; match a with | ⟨0, _⟩ => rfl | ⟨1, _⟩ => rfl
/-- The hidden values. -/
theorem hid_apply (t : Fin cfg0.N) (i : Fin 6144) (j : Fin 3584) : k0_pay5 (F := Ideal) (iblk m c 0 t) (iblk m c 2 t) (iblk m c 6 t) (iblk m c 7 t) (iblk m c 0 t) (iblk m c 3 t) (iblk m c 6 t) (iblk m c 8 t) (ix2 i j) = Cert.MidIdeal.Val.H (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8)) i j := by
  refine (pay5_apply _ _ _ _ _ _ _ _ _).trans (congrArg₂ Cert.MidIdeal.Val.hid ?_ ?_)
  · pointwise [k0_pay2, Cert.MidIdeal.Val.prod]
    blk_point [iblk, V, idx t]
  · pointwise [k0_pay3, Cert.MidIdeal.Val.prod]
    blk_point [iblk, V, idx t]
/-- The row of column scales. -/
theorem c_apply (t : Fin cfg0.N) (j : Fin 3584) :
    (iblk m c 5 t : FVec Ideal S1x3584 .f32) (ix2 0 j) = ((m ((c : Thread nD τ).loc main_arg5)) : FVec Ideal S3584 .f32) (ix1 j) := by
  blk_point [iblk, V, idx t]

/-- The codes of the hidden values. -/
theorem final13 : (dats m 0 c).arrAt 13 (cfgs 0).N = Cert.MidIdeal.Val.colcodes (Cert.MidIdeal.Val.H (m ((c : Thread nD τ).loc main_arg0)) (m ((c : Thread nD τ).loc main_arg2)) (m ((c : Thread nD τ).loc main_arg3)) (m ((c : Thread nD τ).loc main_arg6)) (m ((c : Thread nD τ).loc main_arg7)) (m ((c : Thread nD τ).loc main_arg8))) (m ((c : Thread nD τ).loc main_arg5)) := by
  refine (dats m 0 c).arrAt_eq_of_covers 13 _ (by decide +kernel) fun t hf y => ?_
  blk_simp
  rw [after0_13]
  frame_out
  refine (pay6_apply _ _ _ _ _ _ _ _ _ y _ ((congrArg _ (eta y)).trans (hid_apply m c t (y 0) (y 1)))).trans ?_
  refine (congrArg _ (c_apply m c t (y 1))).trans ?_
  refine Cert.MidIdeal.Val.colcodes_at _ _ _ _ _ ?_ ?_
  · blk_simp [idx t]
  · blk_simp [idx t]

/-- The codes of the gate gradients. -/
theorem final14 : (dats m 0 c).arrAt 14 (cfgs 0).N = Cert.MidIdeal.Val.codes (Cert.MidIdeal.Val.DG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg11)) := by
  refine (dats m 0 c).arrAt_eq_of_covers 14 _ (by decide +kernel) fun t hf y => ?_
  blk_simp
  rw [after0_14]
  frame_out
  refine (pay14_apply _ _ _ _ _ y _ ((congrArg _ (eta y)).trans (dg_apply m c t (y 0) (y 1)))).trans ?_
  pointwise [Cert.MidIdeal.Val.codes]
  blk_point [iblk, V, idx t]

/-- The codes of the up gradients. -/
theorem final15 : (dats m 0 c).arrAt 15 (cfgs 0).N = Cert.MidIdeal.Val.codes (Cert.MidIdeal.Val.DU (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10))) (m ((c : Thread nD τ).loc main_arg12)) := by
  refine (dats m 0 c).arrAt_eq_of_covers 15 _ (by decide +kernel) fun t hf y => ?_
  blk_simp
  rw [after0_15]
  frame_out
  refine (pay1_apply _ _ _ _ y _ ((congrArg _ (eta y)).trans (du_apply m c t (y 0) (y 1)))).trans ?_
  pointwise [Cert.MidIdeal.Val.codes]
  blk_point [iblk, V, idx t]

end Cert.MidRefIdeal.Val
end
-- ==== Proof.MidValue.lean ====
module

public import proofs.«01_k».proof.Defs
public import proofs.«01_k».proof.Proof.MidFinal
public import proofs.«01_k».proof.Proof.MidRefCodes
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.Proof

set_option maxHeartbeats 4000000 in
/-- Over the reals the fused kernel and the reference return the same codes of the hidden values and of both gradients, the
    same maxima and the same next scales. -/
theorem algebraic_Mid : algebraic_MidIdeal_MidRefIdeal := by
  pair_intro
  · run_from Cert.MidIdeal.Value.run_blocks m g
  · run_from Cert.MidRefIdeal.Run.run_blocks m' g'
    · obtain ⟨h0, h1, h2, h3, h4, h5, h6, h7, h8, h9, h10, h11, h12⟩ := hagree c
      rw [Cert.MidIdeal.Val.final11 m c]
      refine (Cert.MidRefIdeal.Val.final13 m' c).trans ?_
      rw [h0, h2, h3, h6, h7, h8, h5]
    · obtain ⟨h0, h1, h2, h3, h4, h5, h6, h7, h8, h9, h10, h11, h12⟩ := hagree c
      rw [Cert.MidIdeal.Val.final12 m c]
      refine (Cert.MidRefIdeal.Val.final14 m' c).trans ?_
      rw [h0, h1, h2, h3, h4, h5, h6, h7, h8, h9, h10, h11]
    · obtain ⟨h0, h1, h2, h3, h4, h5, h6, h7, h8, h9, h10, h11, h12⟩ := hagree c
      rw [Cert.MidIdeal.Val.final13 m c]
      refine (Cert.MidRefIdeal.Val.final15 m' c).trans ?_
      rw [h0, h1, h2, h4, h5, h6, h7, h9, h10, h12]
    · obtain ⟨h0, h1, h2, h3, h4, h5, h6, h7, h8, h9, h10, h11, h12⟩ := hagree c
      rw [Cert.MidIdeal.Val.final14 m c]
      refine (Cert.MidRefIdeal.Val.final16 m' c).trans ?_
      rw [h0, h2, h3, h6, h7, h8]
    · obtain ⟨h0, h1, h2, h3, h4, h5, h6, h7, h8, h9, h10, h11, h12⟩ := hagree c
      rw [Cert.MidIdeal.Val.final15 m c]
      refine (Cert.MidRefIdeal.Val.final17 m' c).trans ?_
      rw [h0, h2, h3, h6, h7, h8]
    · obtain ⟨h0, h1, h2, h3, h4, h5, h6, h7, h8, h9, h10, h11, h12⟩ := hagree c
      rw [Cert.MidIdeal.Val.final16 m c]
      refine (Cert.MidRefIdeal.Val.final18 m' c).trans ?_
      rw [h0, h1, h2, h3, h4, h5, h6, h7, h8, h9, h10]
    · obtain ⟨h0, h1, h2, h3, h4, h5, h6, h7, h8, h9, h10, h11, h12⟩ := hagree c
      rw [Cert.MidIdeal.Val.final17 m c]
      refine (Cert.MidRefIdeal.Val.final19 m' c).trans ?_
      rw [h0, h1, h2, h4, h5, h6, h7, h9, h10]

end Cert.Proof
end
-- ==== Proof.YValue.lean ====
module

public import proofs.«01_k».proof.Defs
public import proofs.«01_k».proof.Proof.Gen.YIdeal.Value
public import proofs.«01_k».proof.Proof.Gen.YRefIdeal.Value
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.YIdeal.Val

open Cert.YIdeal Cert.YIdeal.Gen

/-- The result `y` as mathematics: the product of the codes `h` and `w`, every element times the scale `s`. -/
def Y (h : FVec Ideal S6144x3584 .fp8e4m3) (w : FVec Ideal S3584x8192 .fp8e4m3) (s : FVec Ideal S_ .f32) :
    FVec Ideal S6144x8192 .bf16 :=
  fun i => (∑ k : Fin 3584, h (ix2 (i 0) k) * w (ix2 k (i 1))) * s ix0

/-- Which block of its array each window shows at each grid point. -/
theorem idx : ∀ t : Fin cfg0.N, win0_0.index t = ![0, 0] ∧ win0_1.index t = ![(grid0.coords t 0).val, 0]
    ∧ win0_2.index t = ![0, (grid0.coords t 1).val]
    ∧ win0_3.index t = ![(grid0.coords t 0).val, (grid0.coords t 1).val] :=
  (by decide +kernel : ∀ t : Fin grid0.N, _)

/-- The kernel's result array is `Y` of the arguments. -/
theorem final (m : (ℓ : Loc nD τ sig) → Buf (Elt Ideal) ℓ) (c : Dev nD) : (dats m 0 c).arrAt 3 (cfgs 0).N
    = Y (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  simp only [outsAt0]
  frame_out
  pointwise [k0_pay1, Y]
  blk_point [iblk, V, idx t]

end Cert.YIdeal.Val

namespace Cert.YRefIdeal.Val

open Cert.YRefIdeal Cert.YRefIdeal.Gen

/-- The reference's one grid point sees whole arrays. -/
theorem idx : ∀ t : Fin cfg0.N, win0_0.index t = ![0, 0] ∧ win0_1.index t = ![0, 0] ∧ win0_2.index t = ![0, 0]
    ∧ win0_3.index t = ![0, 0] :=
  (by decide +kernel : ∀ t : Fin grid0.N, _)

/-- The reference's result array is `Y` of the arguments. -/
theorem final (m : (ℓ : Loc nD τ sig) → Buf (Elt Ideal) ℓ) (c : Dev nD) : (dats m 0 c).arrAt 3 (cfgs 0).N
    = Cert.YIdeal.Val.Y (m ((c : Thread nD τ).loc main_arg0)) (m ((c : Thread nD τ).loc main_arg1))
      (m ((c : Thread nD τ).loc main_arg2)) := by
  refine (dats m 0 c).arrAt_eq_of_covers 3 _ (by decide +kernel) fun t hf y => ?_
  blk_simp
  rw [after0_3]
  frame_out
  pointwise [k0_pay1, Cert.YIdeal.Val.Y]
  blk_point [iblk, V, idx t]

end Cert.YRefIdeal.Val

namespace Cert.Proof

/-- Over the reals the kernel and the reference return the same `y`. -/
theorem algebraic_Y : algebraic_YIdeal_YRefIdeal := by
  pair_intro
  · run_from Cert.YIdeal.Value.run_blocks m g
  · run_from Cert.YRefIdeal.Value.run_blocks m' g'
    rw [Cert.YIdeal.Val.final m c]
    refine (Cert.YRefIdeal.Val.final m' c).trans ?_
    rw [(hagree c).1, (hagree c).2.1, (hagree c).2.2]

end Cert.Proof

end
-- ==== Proof.DwDownValue.lean ====
module

public import proofs.«01_k».proof.Defs
public import proofs.«01_k».proof.Proof.Gen.DwDownIdeal.Value
public import proofs.«01_k».proof.Proof.Gen.DwDownRefIdeal.Value
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.DwDownIdeal.Val

open Cert.DwDownIdeal Cert.DwDownIdeal.Gen

/-- The gradient of the down projection as mathematics: the codes `h`, transposed, times the codes `dy`, every element
    times the scale `s` of `dy` and the scale `q` of its row. -/
def DWDOWN (h : FVec Ideal S6144x3584 .fp8e4m3) (dy : FVec Ideal S6144x8192 .fp8e5m2) (q : FVec Ideal S3584 .f32)
    (s : FVec Ideal S_ .f32) : FVec Ideal S3584x8192 .bf16 :=
  fun i => (∑ k : Fin 6144, h (ix2 k (i 0)) * dy (ix2 k (i 1))) * s ix0 * q (ix1 (i 0))

/-- Which block of its array each window shows at each grid point. -/
theorem idx : ∀ t : Fin cfg0.N, win0_0.index t = ![0, 0]
    ∧ win0_1.index t = ![0, (grid0.coords t 0).val]
    ∧ win0_2.index t = ![0, (grid0.coords t 1).val]
    ∧ win0_3.index t = ![(grid0.coords t 0).val, 0]
    ∧ win0_4.index t = ![(grid0.coords t 0).val, (grid0.coords t 1).val] :=
  (by decide +kernel : ∀ t : Fin grid0.N, _)

/-- The kernel's result array is `DWDOWN` of the arguments. -/
theorem final (m : (ℓ : Loc nD τ sig) → Buf (Elt Ideal) ℓ) (c : Dev nD) : (dats m 0 c).arrAt 4 (cfgs 0).N
    = DWDOWN (m ((c : Thread nD τ).loc main_arg0))
        (m ((c : Thread nD τ).loc main_arg1))
        (m ((c : Thread nD τ).loc main_arg2))
        (m ((c : Thread nD τ).loc main_arg3)) := by
  refine (dats m 0 c).arrAt_eq_of_covers 4 _ (by decide +kernel) fun t hf y => ?_
  blk_simp
  rw [after0_4]
  simp only [outsAt0]
  frame_out
  pointwise [k0_pay1, DWDOWN]
  blk_point [iblk, V, idx t]

end Cert.DwDownIdeal.Val

namespace Cert.DwDownRefIdeal.Val

open Cert.DwDownRefIdeal Cert.DwDownRefIdeal.Gen

/-- The reference's one grid point sees whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0] :=
  (by decide +kernel : ∀ t : Fin grid0.N, _)

/-- The reference's result array is `DWDOWN` of the arguments. -/
theorem final (m : (ℓ : Loc nD τ sig) → Buf (Elt Ideal) ℓ) (c : Dev nD) : (dats m 0 c).arrAt 4 (cfgs 0).N
    = Cert.DwDownIdeal.Val.DWDOWN (m ((c : Thread nD τ).loc main_arg0))
        (m ((c : Thread nD τ).loc main_arg1))
        (m ((c : Thread nD τ).loc main_arg2))
        (m ((c : Thread nD τ).loc main_arg3)) := by
  refine (dats m 0 c).arrAt_eq_of_covers 4 _ (by decide +kernel) fun t hf y => ?_
  blk_simp
  rw [after0_4]
  frame_out
  pointwise [k0_pay1, Cert.DwDownIdeal.Val.DWDOWN]
  blk_point [iblk, V, idx t]

end Cert.DwDownRefIdeal.Val

namespace Cert.Proof

/-- Over the reals the kernel and the reference return the same gradient of the down projection. -/
theorem algebraic_DwDown : algebraic_DwDownIdeal_DwDownRefIdeal := by
  pair_intro
  · run_from Cert.DwDownIdeal.Value.run_blocks m g
  · run_from Cert.DwDownRefIdeal.Value.run_blocks m' g'
    rw [Cert.DwDownIdeal.Val.final m c]
    refine (Cert.DwDownRefIdeal.Val.final m' c).trans ?_
    rw [(hagree c).1, (hagree c).2.1, (hagree c).2.2.1, (hagree c).2.2.2]

end Cert.Proof

end
-- ==== Proof.DwGateUpValue.lean ====
module

public import proofs.«01_k».proof.Defs
public import proofs.«01_k».proof.Proof.Gen.DwGateUpIdeal.Value
public import proofs.«01_k».proof.Proof.Gen.DwGateUpRefIdeal.Value
public import Idealize.ShloMosaic.Lib.Pipeline.ValueKit
public import Idealize.ShloMosaic.Lib.Claim
public import Idealize.ShloMosaic.Adequacy

@[expose] public section

set_option maxRecDepth 16384

noncomputable section

open Idealize.ShloMosaic Idealize.ShloMosaic.TcCoe Idealize.SL.Sem
open Idealize.ShloMosaic.Pipeline (Dat)

namespace Cert.DwGateUpIdeal.Val

open Cert.DwGateUpIdeal Cert.DwGateUpIdeal.Gen

/-- The gradient of the gate (or up) projection as mathematics: the codes `x`, transposed, times the codes `d`, every
    element times the product of the two scales. -/
def DW (x : FVec Ideal S6144x8192 .fp8e4m3) (d : FVec Ideal S6144x3584 .fp8e5m2) (s r : FVec Ideal S_ .f32) :
    FVec Ideal S8192x3584 .bf16 :=
  fun i => (∑ k : Fin 6144, x (ix2 k (i 0)) * d (ix2 k (i 1))) * (s ix0 * r ix0)

/-- Which block of its array each window shows at each grid point. -/
theorem idx : ∀ t : Fin cfg0.N, win0_0.index t = ![0, 0]
    ∧ win0_1.index t = ![0, 0]
    ∧ win0_2.index t = ![0, (grid0.coords t 0).val]
    ∧ win0_3.index t = ![0, (grid0.coords t 1).val]
    ∧ win0_4.index t = ![0, (grid0.coords t 1).val]
    ∧ win0_5.index t = ![(grid0.coords t 0).val, (grid0.coords t 1).val]
    ∧ win0_6.index t = ![(grid0.coords t 0).val, (grid0.coords t 1).val] :=
  (by decide +kernel : ∀ t : Fin grid0.N, _)

/-- The kernel's first result array is `DW` of the arguments. -/
theorem final5 (m : (ℓ : Loc nD τ sig) → Buf (Elt Ideal) ℓ) (c : Dev nD) : (dats m 0 c).arrAt 5 (cfgs 0).N
    = DW (m ((c : Thread nD τ).loc main_arg0))
        (m ((c : Thread nD τ).loc main_arg1))
        (m ((c : Thread nD τ).loc main_arg3))
        (m ((c : Thread nD τ).loc main_arg4)) := by
  refine (dats m 0 c).arrAt_eq_of_covers 5 _ (by decide +kernel) fun t hf y => ?_
  blk_simp
  rw [after0_5]
  simp only [outsAt0]
  frame_out
  pointwise [k0_pay1, DW]
  blk_point [iblk, V, idx t]

/-- The kernel's second result array is `DW` of the arguments. -/
theorem final6 (m : (ℓ : Loc nD τ sig) → Buf (Elt Ideal) ℓ) (c : Dev nD) : (dats m 0 c).arrAt 6 (cfgs 0).N
    = DW (m ((c : Thread nD τ).loc main_arg0))
        (m ((c : Thread nD τ).loc main_arg2))
        (m ((c : Thread nD τ).loc main_arg3))
        (m ((c : Thread nD τ).loc main_arg5)) := by
  refine (dats m 0 c).arrAt_eq_of_covers 6 _ (by decide +kernel) fun t hf y => ?_
  blk_simp
  rw [after0_6]
  simp only [outsAt0]
  frame_out
  pointwise [k0_pay2, DW]
  blk_point [iblk, V, idx t]

end Cert.DwGateUpIdeal.Val

namespace Cert.DwGateUpRefIdeal.Val

open Cert.DwGateUpRefIdeal Cert.DwGateUpRefIdeal.Gen

/-- The reference's one grid point sees whole arrays. -/
theorem idx : ∀ t : Fin cfg0.N, win0_0.index t = ![0, 0]
    ∧ win0_1.index t = ![0, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![0, 0] :=
  (by decide +kernel : ∀ t : Fin grid0.N, _)

/-- The reference's first result array is `DW` of the arguments. -/
theorem final6 (m : (ℓ : Loc nD τ sig) → Buf (Elt Ideal) ℓ) (c : Dev nD) : (dats m 0 c).arrAt 6 (cfgs 0).N
    = Cert.DwGateUpIdeal.Val.DW (m ((c : Thread nD τ).loc main_arg0))
        (m ((c : Thread nD τ).loc main_arg1))
        (m ((c : Thread nD τ).loc main_arg3))
        (m ((c : Thread nD τ).loc main_arg4)) := by
  refine (dats m 0 c).arrAt_eq_of_covers 6 _ (by decide +kernel) fun t hf y => ?_
  blk_simp
  rw [after0_6]
  frame_out
  pointwise [k0_pay1, Cert.DwGateUpIdeal.Val.DW]
  blk_point [iblk, V, idx t]

/-- The reference's second result array is `DW` of the arguments. -/
theorem final7 (m : (ℓ : Loc nD τ sig) → Buf (Elt Ideal) ℓ) (c : Dev nD) : (dats m 0 c).arrAt 7 (cfgs 0).N
    = Cert.DwGateUpIdeal.Val.DW (m ((c : Thread nD τ).loc main_arg0))
        (m ((c : Thread nD τ).loc main_arg2))
        (m ((c : Thread nD τ).loc main_arg3))
        (m ((c : Thread nD τ).loc main_arg5)) := by
  refine (dats m 0 c).arrAt_eq_of_covers 7 _ (by decide +kernel) fun t hf y => ?_
  blk_simp
  rw [after0_7]
  frame_out
  pointwise [k0_pay2, Cert.DwGateUpIdeal.Val.DW]
  blk_point [iblk, V, idx t]

end Cert.DwGateUpRefIdeal.Val

namespace Cert.Proof

/-- Over the reals the kernel and the reference return the same gradients of the gate and up projections. -/
theorem algebraic_DwGateUp : algebraic_DwGateUpIdeal_DwGateUpRefIdeal := by
  pair_intro
  · run_from Cert.DwGateUpIdeal.Value.run_blocks m g
  · run_from Cert.DwGateUpRefIdeal.Value.run_blocks m' g'
    · rw [Cert.DwGateUpIdeal.Val.final5 m c]
      refine (Cert.DwGateUpRefIdeal.Val.final6 m' c).trans ?_
      rw [(hagree c).1, (hagree c).2.1, (hagree c).2.2.2.1, (hagree c).2.2.2.2.1]
    · rw [Cert.DwGateUpIdeal.Val.final6 m c]
      refine (Cert.DwGateUpRefIdeal.Val.final7 m' c).trans ?_
      rw [(hagree c).1, (hagree c).2.2.1, (hagree c).2.2.2.1, (hagree c).2.2.2.2.2]

end Cert.Proof

end
-- ==== Proof.lean ====
module

public import proofs.«01_k».proof.Defs
public import proofs.«01_k».proof.Proof.Gen.XPrep.Frame
public import proofs.«01_k».proof.Proof.Gen.DyPrep.Frame
public import proofs.«01_k».proof.Proof.Gen.Mid.Frame
public import proofs.«01_k».proof.Proof.Gen.Y.Frame
public import proofs.«01_k».proof.Proof.Gen.DwDown.Frame
public import proofs.«01_k».proof.Proof.Gen.DwGateUp.Frame
public import proofs.«01_k».proof.Proof.XPrepValue
public import proofs.«01_k».proof.Proof.DyPrepValue
public import proofs.«01_k».proof.Proof.MidValue
public import proofs.«01_k».proof.Proof.YValue
public import proofs.«01_k».proof.Proof.DwDownValue
public import proofs.«01_k».proof.Proof.DwGateUpValue
public import Idealize.ShloMosaic.Adequacy
public import Idealize.ShloMosaic.Init

@[expose] public section

noncomputable section

namespace Cert.Proof

open Idealize.ShloMosaic Idealize.SL.Sem

/-- Every claim of `Defs.lean`, in its order. -/
theorem claim : Cert.Claim :=
  ⟨Cert.XPrep.Gen.facts, Cert.XPrepIdeal.Gen.facts, Cert.XPrepRefIdeal.Gen.facts, Cert.DyPrep.Gen.facts, Cert.DyPrepIdeal.Gen.facts, Cert.DyPrepRefIdeal.Gen.facts, Cert.Mid.Gen.facts, Cert.MidIdeal.Gen.facts, Cert.MidRefIdeal.Gen.facts, Cert.Y.Gen.facts, Cert.YIdeal.Gen.facts, Cert.YRefIdeal.Gen.facts, Cert.DwDown.Gen.facts, Cert.DwDownIdeal.Gen.facts, Cert.DwDownRefIdeal.Gen.facts, Cert.DwGateUp.Gen.facts, Cert.DwGateUpIdeal.Gen.facts, Cert.DwGateUpRefIdeal.Gen.facts,
    fun m g _ => Cert.XPrep.Gen.frame m g,
    fun m g _ => Cert.XPrepIdeal.Gen.frame m g,
    fun m g _ => Cert.XPrepRefIdeal.Gen.frame m g,
    fun m g _ => Cert.DyPrep.Gen.frame m g,
    fun m g _ => Cert.DyPrepIdeal.Gen.frame m g,
    fun m g _ => Cert.DyPrepRefIdeal.Gen.frame m g,
    fun m g _ => Cert.Mid.Gen.frame m g,
    fun m g _ => Cert.MidIdeal.Gen.frame m g,
    fun m g _ => Cert.MidRefIdeal.Gen.frame m g,
    fun m g _ => Cert.Y.Gen.frame m g,
    fun m g _ => Cert.YIdeal.Gen.frame m g,
    fun m g _ => Cert.YRefIdeal.Gen.frame m g,
    fun m g _ => Cert.DwDown.Gen.frame m g,
    fun m g _ => Cert.DwDownIdeal.Gen.frame m g,
    fun m g _ => Cert.DwDownRefIdeal.Gen.frame m g,
    fun m g _ => Cert.DwGateUp.Gen.frame m g,
    fun m g _ => Cert.DwGateUpIdeal.Gen.frame m g,
    fun m g _ => Cert.DwGateUpRefIdeal.Gen.frame m g,
    trivial, algebraic_XPrep,
    trivial, algebraic_DyPrep,
    trivial, algebraic_Mid,
    trivial, algebraic_Y,
    trivial, algebraic_DwDown,
    trivial, algebraic_DwGateUp⟩

end Cert.Proof

end
